-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![256, 256]⟩ ⟨2, ![256, 512]⟩ (Layout.meshBlock [2, 2] ![[], [1]] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![256, 512]⟩ ⟨2, ![512, 1024]⟩ (Layout.meshBlock [2, 2] ![[1], [0]] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨2, ![256, 512]⟩ ⟨2, ![512, 1024]⟩ (Layout.meshBlock [2, 2] ![[1], [0]] c) (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.blockN ⟨2, ![256, 512]⟩ ⟨2, ![512, 1024]⟩ (Layout.meshBlock [2, 2] ![[1], [0]] c) (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.blockN ⟨2, ![512, 256]⟩ ⟨2, ![1024, 512]⟩ (Layout.meshBlock [2, 2] ![[0], [1]] c) (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = Layout.blockN ⟨2, ![512, 256]⟩ ⟨2, ![1024, 512]⟩ (Layout.meshBlock [2, 2] ![[0], [1]] c) (m' (((0 : Dev Cert.ReferenceIdeal.nD).tc : Thread Cert.ReferenceIdeal.nD Cert.ReferenceIdeal.τ).loc Cert.ReferenceIdeal.main_arg5))
      ∧ m ((c.tc : Thread Cert.KernelIdeal.nD Cert.KernelIdeal.τ).loc Cert.KernelIdeal.main_arg6) = Layout.blockN ⟨2, ![512, 256]⟩ ⟨2, ![1024, 512]⟩ (Layout.meshBlock [2, 2] ![[0], [1]] c) (m' (((0 : Dev Cert.ReferenceIdeal.nD).tc : Thread Cert.ReferenceIdeal.nD Cert.ReferenceIdeal.τ).loc Cert.ReferenceIdeal.main_arg6))) →
    ∃ (v0 : Buf (Elt Ideal) (((0 : Dev Cert.ReferenceIdeal.nD).tc : Thread Cert.ReferenceIdeal.nD Cert.ReferenceIdeal.τ).loc Cert.ReferenceIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![256, 256]⟩ ⟨2, ![256, 512]⟩ (Layout.meshBlock [2, 2] ![[], [1]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v11) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x256 : Shape := ⟨2, ![256, 256]⟩
abbrev S256x512 : Shape := ⟨2, ![256, 512]⟩
abbrev S512x256 : Shape := ⟨2, ![512, 256]⟩
abbrev S3x4x64x512 : Shape := ⟨4, ![3, 4, 64, 512]⟩
abbrev S3x4x64x256 : Shape := ⟨4, ![3, 4, 64, 256]⟩
abbrev S3x256x512 : Shape := ⟨3, ![3, 256, 512]⟩
abbrev S3x512x256 : Shape := ⟨3, ![3, 512, 256]⟩
abbrev S3x4 : Shape := ⟨2, ![3, 4]⟩
abbrev S6 : Shape := ⟨1, ![6]⟩
abbrev S1 : Shape := ⟨1, ![1]⟩
abbrev S_ : Shape := ⟨0, ![]⟩
abbrev S1x256x512 : Shape := ⟨3, ![1, 256, 512]⟩
abbrev S1x512x256 : Shape := ⟨3, ![1, 512, 256]⟩
abbrev S64x256 : Shape := ⟨2, ![64, 256]⟩
abbrev S64x512 : Shape := ⟨2, ![64, 512]⟩
abbrev S1x1x64x512 : Shape := ⟨4, ![1, 1, 64, 512]⟩
abbrev S1x1 : Shape := ⟨2, ![1, 1]⟩
abbrev S1x1x64x256 : Shape := ⟨4, ![1, 1, 64, 256]⟩

abbrev nBuf : Space → Nat
  | .hbm => 8
  | .vmem => 8
  | .smem => 0
  | _ => 0

abbrev bufTy : (tb : Table) → Fin (tcTables nBuf tb) → BufTy
  | .hbm, ⟨0, _⟩ => ⟨S256x256, .f32⟩
  | .hbm, ⟨1, _⟩ => ⟨S256x512, .f32⟩
  | .hbm, ⟨2, _⟩ => ⟨S256x512, .f32⟩
  | .hbm, ⟨3, _⟩ => ⟨S256x512, .f32⟩
  | .hbm, ⟨4, _⟩ => ⟨S512x256, .f32⟩
  | .hbm, ⟨5, _⟩ => ⟨S512x256, .f32⟩
  | .hbm, ⟨6, _⟩ => ⟨S512x256, .f32⟩
  | .hbm, ⟨7, _⟩ => ⟨S256x256, .f32⟩
  | .local _ .vmem, ⟨0, _⟩ => ⟨S256x256, .f32⟩
  | .local _ .vmem, ⟨1, _⟩ => ⟨S256x256, .f32⟩
  | .local _ .vmem, ⟨2, _⟩ => ⟨S3x4x64x512, .bf16⟩
  | .local _ .vmem, ⟨3, _⟩ => ⟨S3x4x64x512, .bf16⟩
  | .local _ .vmem, ⟨4, _⟩ => ⟨S3x4x64x256, .bf16⟩
  | .local _ .vmem, ⟨5, _⟩ => ⟨S3x4x64x256, .bf16⟩
  | .local _ .vmem, ⟨6, _⟩ => ⟨S3x256x512, .f32⟩
  | .local _ .vmem, ⟨7, _⟩ => ⟨S3x512x256, .f32⟩
  | _, _ => ⟨S256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 56 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  (ofTc nBuf bufTy 1 56 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_26 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_25 : BitVec 32 := 2#32
  let v33 : BitVec 32 := Scalar.muli v2 c2_i32_25
  let v34 : BitVec 32 := Scalar.addi c0_i32_26 v33
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_27 : BitVec 32 := 1#32
  let v35 : BitVec 32 := Scalar.muli v6 c1_i32_27
  let v36 : BitVec 32 := Scalar.addi v34 v35
  v36.toNat
def k0_dev2 (d0 : Dev nD) : Nat :=
  let c0_i32_30 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_29 : BitVec 32 := 2#32
  let v37 : BitVec 32 := Scalar.muli v7 c2_i32_29
  let v38 : BitVec 32 := Scalar.addi c0_i32_30 v37
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_31 : BitVec 32 := 1#32
  let v39 : BitVec 32 := Scalar.muli v5 c1_i32_31
  let v40 : BitVec 32 := Scalar.addi v38 v39
  v40.toNat
def k0_dev3 (d0 : Dev nD) : Nat :=
  let c0_i32_59 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_58 : BitVec 32 := 2#32
  let v66 : BitVec 32 := Scalar.muli v2 c2_i32_58
  let v67 : BitVec 32 := Scalar.addi c0_i32_59 v66
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_60 : BitVec 32 := 1#32
  let v68 : BitVec 32 := Scalar.muli v6 c1_i32_60
  let v69 : BitVec 32 := Scalar.addi v67 v68
  v69.toNat
def k0_dev4 (d0 : Dev nD) : Nat :=
  let c0_i32_83 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_82 : BitVec 32 := 2#32
  let v87 : BitVec 32 := Scalar.muli v2 c2_i32_82
  let v88 : BitVec 32 := Scalar.addi c0_i32_83 v87
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_84 : BitVec 32 := 1#32
  let v89 : BitVec 32 := Scalar.muli v6 c1_i32_84
  let v90 : BitVec 32 := Scalar.addi v88 v89
  v90.toNat
def k0_dev5 (d0 : Dev nD) : Nat :=
  let c0_i32_107 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_106 : BitVec 32 := 2#32
  let v108 : BitVec 32 := Scalar.muli v2 c2_i32_106
  let v109 : BitVec 32 := Scalar.addi c0_i32_107 v108
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_108 : BitVec 32 := 1#32
  let v110 : BitVec 32 := Scalar.muli v6 c1_i32_108
  let v111 : BitVec 32 := Scalar.addi v109 v110
  v111.toNat
def k0_dev6 (d0 : Dev nD) : Nat :=
  let c0_i32_131 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_130 : BitVec 32 := 2#32
  let v129 : BitVec 32 := Scalar.muli v2 c2_i32_130
  let v130 : BitVec 32 := Scalar.addi c0_i32_131 v129
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_132 : BitVec 32 := 1#32
  let v131 : BitVec 32 := Scalar.muli v6 c1_i32_132
  let v132 : BitVec 32 := Scalar.addi v130 v131
  v132.toNat
def k0_dev7 (d0 : Dev nD) : Nat :=
  let c0_i32_180 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_179 : BitVec 32 := 2#32
  let v169 : BitVec 32 := Scalar.muli v7 c2_i32_179
  let v170 : BitVec 32 := Scalar.addi c0_i32_180 v169
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_181 : BitVec 32 := 1#32
  let v171 : BitVec 32 := Scalar.muli v5 c1_i32_181
  let v172 : BitVec 32 := Scalar.addi v170 v171
  v172.toNat
def k0_dev8 (d0 : Dev nD) : Nat :=
  let c0_i32_225 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_224 : BitVec 32 := 2#32
  let v205 : BitVec 32 := Scalar.muli v7 c2_i32_224
  let v206 : BitVec 32 := Scalar.addi c0_i32_225 v205
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_226 : BitVec 32 := 1#32
  let v207 : BitVec 32 := Scalar.muli v5 c1_i32_226
  let v208 : BitVec 32 := Scalar.addi v206 v207
  v208.toNat
def k0_dev9 (d0 : Dev nD) : Nat :=
  let c0_i32_270 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_269 : BitVec 32 := 2#32
  let v241 : BitVec 32 := Scalar.muli v7 c2_i32_269
  let v242 : BitVec 32 := Scalar.addi c0_i32_270 v241
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_271 : BitVec 32 := 1#32
  let v243 : BitVec 32 := Scalar.muli v5 c1_i32_271
  let v244 : BitVec 32 := Scalar.addi v242 v243
  v244.toNat
def k0_dev10 (d0 : Dev nD) : Nat :=
  let c0_i32_315 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_314 : BitVec 32 := 2#32
  let v277 : BitVec 32 := Scalar.muli v7 c2_i32_314
  let v278 : BitVec 32 := Scalar.addi c0_i32_315 v277
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_316 : BitVec 32 := 1#32
  let v279 : BitVec 32 := Scalar.muli v5 c1_i32_316
  let v280 : BitVec 32 := Scalar.addi v278 v279
  v280.toNat
def k0_dev11 (d0 : Dev nD) : Nat :=
  let c0_i32_363 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_362 : BitVec 32 := 2#32
  let v315 : BitVec 32 := Scalar.muli v2 c2_i32_362
  let v316 : BitVec 32 := Scalar.addi c0_i32_363 v315
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_364 : BitVec 32 := 1#32
  let v317 : BitVec 32 := Scalar.muli v6 c1_i32_364
  let v318 : BitVec 32 := Scalar.addi v316 v317
  v318.toNat
def k0_dev12 (d0 : Dev nD) : Nat :=
  let c0_i32_407 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_406 : BitVec 32 := 2#32
  let v349 : BitVec 32 := Scalar.muli v2 c2_i32_406
  let v350 : BitVec 32 := Scalar.addi c0_i32_407 v349
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_408 : BitVec 32 := 1#32
  let v351 : BitVec 32 := Scalar.muli v6 c1_i32_408
  let v352 : BitVec 32 := Scalar.addi v350 v351
  v352.toNat
def k0_dev13 (d0 : Dev nD) : Nat :=
  let c0_i32_451 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_450 : BitVec 32 := 2#32
  let v383 : BitVec 32 := Scalar.muli v2 c2_i32_450
  let v384 : BitVec 32 := Scalar.addi c0_i32_451 v383
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_452 : BitVec 32 := 1#32
  let v385 : BitVec 32 := Scalar.muli v6 c1_i32_452
  let v386 : BitVec 32 := Scalar.addi v384 v385
  v386.toNat
def k0_dev14 (d0 : Dev nD) : Nat :=
  let c0_i32_495 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_494 : BitVec 32 := 2#32
  let v417 : BitVec 32 := Scalar.muli v2 c2_i32_494
  let v418 : BitVec 32 := Scalar.addi c0_i32_495 v417
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_496 : BitVec 32 := 1#32
  let v419 : BitVec 32 := Scalar.muli v6 c1_i32_496
  let v420 : BitVec 32 := Scalar.addi v418 v419
  v420.toNat
def k0_dev15 (d0 : Dev nD) : Nat :=
  let c0_i32_544 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_543 : BitVec 32 := 2#32
  let v457 : BitVec 32 := Scalar.muli v7 c2_i32_543
  let v458 : BitVec 32 := Scalar.addi c0_i32_544 v457
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_545 : BitVec 32 := 1#32
  let v459 : BitVec 32 := Scalar.muli v5 c1_i32_545
  let v460 : BitVec 32 := Scalar.addi v458 v459
  v460.toNat
def k0_dev16 (d0 : Dev nD) : Nat :=
  let c0_i32_589 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_588 : BitVec 32 := 2#32
  let v493 : BitVec 32 := Scalar.muli v7 c2_i32_588
  let v494 : BitVec 32 := Scalar.addi c0_i32_589 v493
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_590 : BitVec 32 := 1#32
  let v495 : BitVec 32 := Scalar.muli v5 c1_i32_590
  let v496 : BitVec 32 := Scalar.addi v494 v495
  v496.toNat
def k0_dev17 (d0 : Dev nD) : Nat :=
  let c0_i32_634 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_633 : BitVec 32 := 2#32
  let v529 : BitVec 32 := Scalar.muli v7 c2_i32_633
  let v530 : BitVec 32 := Scalar.addi c0_i32_634 v529
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_635 : BitVec 32 := 1#32
  let v531 : BitVec 32 := Scalar.muli v5 c1_i32_635
  let v532 : BitVec 32 := Scalar.addi v530 v531
  v532.toNat
def k0_dev18 (d0 : Dev nD) : Nat :=
  let c0_i32_679 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_678 : BitVec 32 := 2#32
  let v565 : BitVec 32 := Scalar.muli v7 c2_i32_678
  let v566 : BitVec 32 := Scalar.addi c0_i32_679 v565
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_680 : BitVec 32 := 1#32
  let v567 : BitVec 32 := Scalar.muli v5 c1_i32_680
  let v568 : BitVec 32 := Scalar.addi v566 v567
  v568.toNat
def k0_dev19 (d0 : Dev nD) : Nat :=
  let c0_i32_727 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_726 : BitVec 32 := 2#32
  let v603 : BitVec 32 := Scalar.muli v2 c2_i32_726
  let v604 : BitVec 32 := Scalar.addi c0_i32_727 v603
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_728 : BitVec 32 := 1#32
  let v605 : BitVec 32 := Scalar.muli v6 c1_i32_728
  let v606 : BitVec 32 := Scalar.addi v604 v605
  v606.toNat
def k0_dev20 (d0 : Dev nD) : Nat :=
  let c0_i32_771 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_770 : BitVec 32 := 2#32
  let v637 : BitVec 32 := Scalar.muli v2 c2_i32_770
  let v638 : BitVec 32 := Scalar.addi c0_i32_771 v637
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_772 : BitVec 32 := 1#32
  let v639 : BitVec 32 := Scalar.muli v6 c1_i32_772
  let v640 : BitVec 32 := Scalar.addi v638 v639
  v640.toNat
def k0_dev21 (d0 : Dev nD) : Nat :=
  let c0_i32_815 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_814 : BitVec 32 := 2#32
  let v671 : BitVec 32 := Scalar.muli v2 c2_i32_814
  let v672 : BitVec 32 := Scalar.addi c0_i32_815 v671
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_816 : BitVec 32 := 1#32
  let v673 : BitVec 32 := Scalar.muli v6 c1_i32_816
  let v674 : BitVec 32 := Scalar.addi v672 v673
  v674.toNat
def k0_dev22 (d0 : Dev nD) : Nat :=
  let c0_i32_859 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_858 : BitVec 32 := 2#32
  let v705 : BitVec 32 := Scalar.muli v2 c2_i32_858
  let v706 : BitVec 32 := Scalar.addi c0_i32_859 v705
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_860 : BitVec 32 := 1#32
  let v707 : BitVec 32 := Scalar.muli v6 c1_i32_860
  let v708 : BitVec 32 := Scalar.addi v706 v707
  v708.toNat
def k0_dev23 (d0 : Dev nD) : Nat :=
  let c0_i32_908 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_907 : BitVec 32 := 2#32
  let v745 : BitVec 32 := Scalar.muli v7 c2_i32_907
  let v746 : BitVec 32 := Scalar.addi c0_i32_908 v745
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_909 : BitVec 32 := 1#32
  let v747 : BitVec 32 := Scalar.muli v5 c1_i32_909
  let v748 : BitVec 32 := Scalar.addi v746 v747
  v748.toNat
def k0_dev24 (d0 : Dev nD) : Nat :=
  let c0_i32_953 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_952 : BitVec 32 := 2#32
  let v781 : BitVec 32 := Scalar.muli v7 c2_i32_952
  let v782 : BitVec 32 := Scalar.addi c0_i32_953 v781
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_954 : BitVec 32 := 1#32
  let v783 : BitVec 32 := Scalar.muli v5 c1_i32_954
  let v784 : BitVec 32 := Scalar.addi v782 v783
  v784.toNat
def k0_dev25 (d0 : Dev nD) : Nat :=
  let c0_i32_998 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_997 : BitVec 32 := 2#32
  let v817 : BitVec 32 := Scalar.muli v7 c2_i32_997
  let v818 : BitVec 32 := Scalar.addi c0_i32_998 v817
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_999 : BitVec 32 := 1#32
  let v819 : BitVec 32 := Scalar.muli v5 c1_i32_999
  let v820 : BitVec 32 := Scalar.addi v818 v819
  v820.toNat
def k0_dev26 (d0 : Dev nD) : Nat :=
  let c0_i32_1043 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1042 : BitVec 32 := 2#32
  let v853 : BitVec 32 := Scalar.muli v7 c2_i32_1042
  let v854 : BitVec 32 := Scalar.addi c0_i32_1043 v853
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1044 : BitVec 32 := 1#32
  let v855 : BitVec 32 := Scalar.muli v5 c1_i32_1044
  let v856 : BitVec 32 := Scalar.addi v854 v855
  v856.toNat
abbrev stage0_0 : Fin 1 → Memref sig .tc .vmem S256x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S256x512 : Shape := ⟨2, ![256, 512]⟩
abbrev S512x1024 : Shape := ⟨2, ![512, 1024]⟩
abbrev S1024x512 : Shape := ⟨2, ![1024, 512]⟩
abbrev S256x1024 : Shape := ⟨2, ![256, 1024]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S256x512, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S1024x512, .f32⟩
  | .hbm, ⟨5, _⟩ => ⟨S1024x512, .f32⟩
  | .hbm, ⟨6, _⟩ => ⟨S1024x512, .f32⟩
  | .hbm, ⟨7, _⟩ => ⟨S256x1024, .f32⟩
  | .hbm, ⟨8, _⟩ => ⟨S_, .f32⟩
  | .hbm, ⟨9, _⟩ => ⟨S256x1024, .f32⟩
  | .hbm, ⟨10, _⟩ => ⟨S256x1024, .f32⟩
  | .hbm, ⟨11, _⟩ => ⟨S256x512, .f32⟩
  | .hbm, ⟨12, _⟩ => ⟨S256x1024, .f32⟩
  | .hbm, ⟨13, _⟩ => ⟨S_, .f32⟩
  | .hbm, ⟨14, _⟩ => ⟨S256x1024, .f32⟩
  | .hbm, ⟨15, _⟩ => ⟨S256x1024, .f32⟩
  | .hbm, ⟨16, _⟩ => ⟨S256x512, .f32⟩
  | .hbm, ⟨17, _⟩ => ⟨S256x1024, .f32⟩
  | .hbm, ⟨18, _⟩ => ⟨S_, .f32⟩
  | .hbm, ⟨19, _⟩ => ⟨S256x1024, .f32⟩
  | .hbm, ⟨20, _⟩ => ⟨S256x1024, .f32⟩
  | .hbm, ⟨21, _⟩ => ⟨S256x512, .f32⟩
  | _, _ => ⟨S256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩

abbrev nD : Nat := 1
abbrev τ : Topo := Topo.v7x

variable {F : FTy → Type} [FloatOps F]
-- ==== Proof.Program.lean ====
/-
  The kernel's body written once more as a program of a few parametric steps: a message's send,
  a message's receipt, a weight's copy, its wait and its load, and the row chunks of the
  activations and of the result; and that the printed body is this program.
-/
module

public import proofs.«01_k».proof.Proof.Gen.KernelIdeal.Points
public import proofs.«01_k».proof.Proof.Gen.KernelIdeal.Skeleton

@[expose] public section

set_option synthInstance.maxSize 4096

noncomputable section

namespace Cert.Mlp

open Idealize.ShloMosaic Idealize.ShloMosaic.TcCoe
open Idealize.SL Idealize.SL.Sem
open Cert.KernelIdeal Cert.KernelIdeal.Gen

variable {F : FTy → Type} [FloatOps F]

/-- A message: whether it is a partial hidden block (`true`, sent along a row of the mesh) or a
    partial output block (`false`, sent along a column), its layer and its row chunk. -/
abbrev Msg := Bool × Fin 3 × Fin 4

/-- The width of a message's block. -/
abbrev wd (b : Bool) : ℕ := cond b 512 256
/-- The shape of a communication buffer, of one slot of it, and of a slot as a matrix. -/
abbrev bufS (b : Bool) : Shape := ⟨4, ![3, 4, 64, wd b]⟩
abbrev slotS (b : Bool) : Shape := ⟨4, ![1, 1, 64, wd b]⟩
abbrev blkS (b : Bool) : Shape := ⟨2, ![64, wd b]⟩

/-- The buffer that messages of a kind leave from, -/
def sndM : (b : Bool) → Memref sig .tc .vmem (bufS b) .bf16
  | true => Memref.whole cc0_scratch0
  | false => Memref.whole cc0_scratch2
/-- and the one they arrive in. -/
def rcvM : (b : Bool) → Memref sig .tc .vmem (bufS b) .bf16
  | true => Memref.whole cc0_scratch1
  | false => Memref.whole cc0_scratch3

theorem sndM_whole : ∀ b, (sndM b).IsWhole
  | true => Memref.isWhole_whole _
  | false => Memref.isWhole_whole _
theorem rcvM_whole : ∀ b, (rcvM b).IsWhole
  | true => Memref.isWhole_whole _
  | false => Memref.isWhole_whole _

theorem slot_inb (b : Bool) (k : Fin 3) (c : Fin 4) :
    ∀ a, (![k.val, c.val, 0, 0] : Fin 4 → ℕ) a + (slotS b).size a ≤ (bufS b).size a := by
  cases b <;> revert k c <;> decide

/-- The rectangle of a message's slot. -/
abbrev slotR (j : Msg) : Rect (bufS j.1) := Rect.unit ![j.2.1.val, j.2.2.val, 0, 0] (slotS j.1).size (slot_inb j.1 j.2.1 j.2.2)

theorem slot_packed (j : Msg) : (slotR j).PackedRows (EltTy.packing .bf16) := by
  obtain ⟨b, k, c⟩ := j; cases b <;> revert k c <;> decide
theorem slot_words (j : Msg) : (slotR j).WholeWords (EltTy.packing .bf16) := (slot_packed j).wholeWords
theorem slot_squeezes (b : Bool) : (slotS b).Squeezes (blkS b) := by cases b <;> decide
theorem slot_pos (b : Bool) : 0 < (slotS b).numel := by cases b <;> decide

/-- A message's slot in the buffer it leaves from, -/
abbrev srcS (j : Msg) : Memref sig .tc .vmem (slotS j.1) .bf16 := (sndM j.1).slice (slotR j) (fun _ => rfl)
/-- in the buffer it arrives in, -/
abbrev dstS (j : Msg) : Memref sig .tc .vmem (slotS j.1) .bf16 := (rcvM j.1).slice (slotR j) (fun _ => rfl)
/-- and both as matrices. -/
abbrev srcM (j : Msg) : Memref sig .tc .vmem (blkS j.1) .bf16 := (srcS j).squeeze (blkS j.1) (slot_squeezes j.1)
abbrev dstM (j : Msg) : Memref sig .tc .vmem (blkS j.1) .bf16 := (dstS j).squeeze (blkS j.1) (slot_squeezes j.1)

theorem srcM_exact (j : Msg) : (srcM j).view.WordExact :=
  ((sndM_whole j.1).wordExact_slice rfl _ (slot_words j)).reshape _ _
theorem dstM_exact (j : Msg) : (dstM j).view.WordExact :=
  ((rcvM_whole j.1).wordExact_slice rfl _ (slot_words j)).reshape _ _

theorem sem_inb (k : Fin 3) (c : Fin 4) : ∀ a, (![k.val, c.val] : Fin 2 → ℕ) a + S1x1.size a ≤ S3x4.size a := by
  revert k c; decide

/-- The semaphore of a slot in an array of them. -/
def semAt (A : DmaSems sig S3x4) (k : Fin 3) (c : Fin 4) : DmaSem sig :=
  ((A.slice (Rect.unit (s := S3x4) ![k.val, c.val] S1x1.size (sem_inb k c))).squeeze S_ squeezes_S1x1_S_).sem

/-- The semaphore a message's departure is counted on, -/
def ssem : Msg → DmaSem sig
  | (true, k, c) => semAt cc0_scratch6 k c
  | (false, k, c) => semAt cc0_scratch8 k c
/-- and the one its arrival is. -/
def rsem : Msg → DmaSem sig
  | (true, k, c) => semAt cc0_scratch7 k c
  | (false, k, c) => semAt cc0_scratch9 k c

/-- A weight: whether it is an inner one (`true`) or an outer one, and its layer. -/
abbrev Wt := Bool × Fin 3
abbrev wtS : Bool → Shape := fun b => ⟨2, ![cond b 256 512, cond b 512 256]⟩
abbrev wtbufS : Bool → Shape := fun b => ⟨3, ![3, cond b 256 512, cond b 512 256]⟩
abbrev wtslotS : Bool → Shape := fun b => ⟨3, ![1, cond b 256 512, cond b 512 256]⟩

/-- The buffer the weights of a kind are copied into, -/
def wbufM : (b : Bool) → Memref sig .tc .vmem (wtbufS b) .f32
  | true => Memref.whole cc0_scratch4
  | false => Memref.whole cc0_scratch5
/-- and the arrays they are copied from. -/
def whbm : (w : Wt) → Memref sig .tc .hbm (wtS w.1) .f32
  | (true, 0) => Memref.whole main_arg1
  | (true, 1) => Memref.whole main_arg2
  | (true, 2) => Memref.whole main_arg3
  | (false, 0) => Memref.whole main_arg4
  | (false, 1) => Memref.whole main_arg5
  | (false, 2) => Memref.whole main_arg6

theorem wt_inb (b : Bool) (k : Fin 3) :
    ∀ a, (![k.val, 0, 0] : Fin 3 → ℕ) a + (wtslotS b).size a ≤ (wtbufS b).size a := by
  cases b <;> revert k <;> decide
theorem wt_squeezes (b : Bool) : (wtslotS b).Squeezes (wtS b) := by cases b <;> decide
theorem wt_pos (b : Bool) : 0 < (wtS b).numel := by cases b <;> decide

abbrev wtR (w : Wt) : Rect (wtbufS w.1) := Rect.unit ![w.2.val, 0, 0] (wtslotS w.1).size (wt_inb w.1 w.2)
/-- A weight's slot in the buffer, and the slot as a matrix. -/
abbrev wslotS (w : Wt) : Memref sig .tc .vmem (wtslotS w.1) .f32 := (wbufM w.1).slice (wtR w) (fun _ => rfl)
abbrev wslotM (w : Wt) : Memref sig .tc .vmem (wtS w.1) .f32 := (wslotS w).squeeze (wtS w.1) (wt_squeezes w.1)

theorem whbm_exact (w : Wt) : (whbm w).view.WordExact := View.wordExact_bits rfl
theorem wslotM_exact (w : Wt) : (wslotM w).view.WordExact := View.wordExact_bits rfl

theorem wsem_inb (i : Fin 6) : ∀ a, (![i.val] : Fin 1 → ℕ) a + S1.size a ≤ S6.size a := by revert i; decide
/-- The position of a weight in the order of the copies. -/
def wpos (w : Wt) : Fin 6 := ⟨2 * w.2.val + cond w.1 0 1, by obtain ⟨b, k⟩ := w; cases b <;> simp <;> omega⟩
/-- The semaphore a weight's copy is counted on. -/
def wsem (w : Wt) : DmaSem sig :=
  ((cc0_scratch10.slice (Rect.unit (s := S6) ![(wpos w).val] S1.size (wsem_inb (wpos w)))).squeeze S_ squeezes_S1_S_).sem

/-- The barrier's semaphore. -/
def barS : Sem sig := (SemArray.scalar (sig.barrier 0 rfl) : Sems sig S_).sem

/-- The device beside `d` in its row of the mesh and the one in its column, as the kernel computes
    them. -/
def rowD (d : Dev nD) : Dev nD := ⟨k0_dev1 d, k0_dev1_lt d⟩
def colD (d : Dev nD) : Dev nD := ⟨k0_dev2 d, k0_dev2_lt d⟩
/-- The device a message of a kind goes to. -/
def peer (b : Bool) (d : Dev nD) : Dev nD := match b with | true => rowD d | false => colD d

/-! ### The values -/

abbrev Act (F : FTy → Type) := FVec F S64x256 .bf16
abbrev Hid (F : FTy → Type) := FVec F S64x512 .bf16

/-- A chunk of the activations as first read, -/
def xChunk (v : Vec F S64x256 .f32) : Act F := truncf .bf16 (shapeCast S64x256 v shapeCasts_S64x256_S64x256) bitsLt_bf16_f32
/-- its partial hidden block, -/
def partH (x : Act F) (w : Vec F S256x512 .f32) : Hid F :=
  truncf .bf16 (matmul dot_S64x256_S256x512_S64x512_1_0_0_1_n_n none x (truncf .bf16 w bitsLt_bf16_f32) (constant S64x512 .f32 0x00000000#32)) bitsLt_bf16_f32
/-- the hidden block from both parts, -/
def actH (p : Hid F) (r : Vec F S1x1x64x512 .bf16) : Hid F :=
  maximumf (addf p (shapeCast S64x512 r shapeCasts_S1x1x64x512_S64x512)) (broadcast S64x512 (Scalar.ofBits .bf16 0x0000#16))
/-- the partial output block, -/
def partO (h : Hid F) (w : Vec F S512x256 .f32) : Act F :=
  truncf .bf16 (matmul dot_S64x512_S512x256_S64x256_1_0_0_1_n_n none h (truncf .bf16 w bitsLt_bf16_f32) (constant S64x256 .f32 0x00000000#32)) bitsLt_bf16_f32
/-- the output block from both parts, -/
def sumO (p : Act F) (r : Vec F S1x1x64x256 .bf16) : Act F := addf p (shapeCast S64x256 r shapeCasts_S1x1x64x256_S64x256)
/-- and a block as a slot holds it. -/
def slotH (p : Hid F) : Vec F S1x1x64x512 .bf16 := shapeCast S1x1x64x512 p shapeCasts_S64x512_S1x1x64x512
def slotO (p : Act F) : Vec F S1x1x64x256 .bf16 := shapeCast S1x1x64x256 p shapeCasts_S64x256_S1x1x64x256
/-- A chunk of the result. -/
def outChunk (p : Act F) : Vec F S64x256 .f32 := extf .f32 p bitsLt_bf16_f32

/-! ### The steps -/

/-- A program of the kernel's core. -/
abbrev P (F : FTy → Type) [FloatOps F] := Prog (TpuEff nD τ sig (Elt F) Λ₀ .tc) PUnit

/-- Copy a weight into its slot. -/
def copyW (w : Wt) (K : P F) : P F :=
  .op (.enqueueDma (whbm w) (.here (wslotM w)) (.dma (wsem w)) (whbm_exact w) (wslotM_exact w) ⟨Or.inl rfl, trivial⟩) fun _ => K
/-- Wait for a weight's copy. -/
def waitW (w : Wt) (K : P F) : P F :=
  .op (.waitDma2 (wsem w) (whbm w) (wslotM w) (whbm_exact w) (wslotM_exact w)) fun _ => K

theorem wload_inb (b : Bool) : ∀ a, (![0, 0] : Fin 2 → ℕ) a + (wtS b).size a ≤ (wtS b).size a := by
  intro a; fin_cases a <;> simp
/-- Load a weight. -/
def loadW (w : Wt) (K : ((wtS w.1).Idx → Elt F .f32) → P F) : P F :=
  .op (.load (wslotM w) (Rect.unit (s := wtS w.1) ![0, 0] (wtS w.1).size (wload_inb w.1)).toLoadRect (View.loadsAt_vmem (wt_pos w.1))) K

/-- Write a block into its message's slot and send it. -/
def send (j : Msg) (dv : Dev nD) (v : (slotS j.1).Idx → Elt F .bf16) (K : P F) : P F :=
  .op (.load (sndM j.1) (slotR j).toLoadRect (View.loadsAt_vmem (slot_pos j.1))) fun _ =>
  .op (.store (sndM j.1) (slotR j) v Finset.univ
    (View.stores_vmem (slot_pos j.1) ((sndM_whole j.1).storeExact_slice rfl _ (slot_packed j)) (fun _ => rfl)) (.inl rfl)) fun _ =>
  .op (.enqueueDma (srcM j) (.remote (Dev.tc dv) (dstM j) (.dma (ssem j))) (.dma (rsem j)) (srcM_exact j) (dstM_exact j)
    ⟨⟨rfl, Or.inl rfl⟩, trivial⟩) fun _ => K
/-- Wait for a message's arrival and read it. -/
def recv (j : Msg) (K : ((slotS j.1).Idx → Elt F .bf16) → P F) : P F :=
  .op (.waitDma2 (rsem j) (srcM j) (dstM j) (srcM_exact j) (dstM_exact j)) fun _ =>
  .op (.load (rcvM j.1) (slotR j).toLoadRect (View.loadsAt_vmem (slot_pos j.1))) K
/-- Wait for a message's departure. -/
def sent (j : Msg) (K : P F) : P F :=
  .op (.waitDma2 (ssem j) (dstM j) (srcM j) (dstM_exact j) (srcM_exact j)) fun _ => K

theorem chunk_inb (c : Fin 4) : ∀ a, (![64 * c.val, 0] : Fin 2 → ℕ) a + S64x256.size a ≤ S256x256.size a := by
  revert c; decide
/-- The rectangle of a chunk of rows. -/
abbrev chunkR (c : Fin 4) : Rect S256x256 := Rect.unit ![64 * c.val, 0] S64x256.size (chunk_inb c)

/-- Read a chunk of the activations. -/
def loadX (a : Memref sig .tc .vmem S256x256 .f32) (c : Fin 4) (K : Vec F S64x256 .f32 → P F) : P F :=
  .op (.load a (chunkR c).toLoadRect (View.loadsAt_vmem h_S64x256)) K
/-- Write a chunk of the result. -/
def storeX (a : Memref sig .tc .vmem S256x256 .f32) (c : Fin 4) (v : Vec F S64x256 .f32) (K : P F) : P F :=
  .op (.load a (chunkR c).toLoadRect (View.loadsAt_vmem h_S64x256)) fun _ =>
  .op (.store a (chunkR c) v Finset.univ (View.stores_vmem_bits_univ h_S64x256 rfl) (.inl rfl)) fun _ => K

/-- Form the hidden part of a chunk and send it, -/
def sendH (d : Dev nD) (k : Fin 3) (c : Fin 4) (x : Act F) (K : Hid F → P F) : P F :=
  loadW (true, k) fun w => send (true, k, c) (rowD d) (slotH (partH x w)) (K (partH x w))
/-- and receive the other hidden part of a chunk, form the output part and send it. -/
def sendO (d : Dev nD) (k : Fin 3) (c : Fin 4) (h : Hid F) (K : Act F → P F) : P F :=
  loadW (false, k) fun w => send (false, k, c) (colD d) (slotO (partO h w)) (K (partO h w))

/-- A layer's first half: each chunk's hidden parts meet, and its output part leaves. -/
def halfH (d : Dev nD) (k : Fin 3) (p0 p1 p2 p3 : Hid F) (K : Act F → Act F → Act F → Act F → P F) : P F :=
  recv (true, k, 0) fun r0 => waitW (false, k) <| sendO d k 0 (actH p0 r0) fun q0 =>
  recv (true, k, 1) fun r1 => sendO d k 1 (actH p1 r1) fun q1 =>
  recv (true, k, 2) fun r2 => sendO d k 2 (actH p2 r2) fun q2 =>
  recv (true, k, 3) fun r3 => sendO d k 3 (actH p3 r3) fun q3 => K q0 q1 q2 q3
/-- A layer's second half before another layer `k'`: each chunk's output parts meet, and its next
    hidden part leaves. -/
def halfO (d : Dev nD) (k k' : Fin 3) (q0 q1 q2 q3 : Act F) (K : Hid F → Hid F → Hid F → Hid F → P F) : P F :=
  recv (false, k, 0) fun r0 => waitW (true, k') <| sendH d k' 0 (sumO q0 r0) fun p0 =>
  recv (false, k, 1) fun r1 => sendH d k' 1 (sumO q1 r1) fun p1 =>
  recv (false, k, 2) fun r2 => sendH d k' 2 (sumO q2 r2) fun p2 =>
  recv (false, k, 3) fun r3 => sendH d k' 3 (sumO q3 r3) fun p3 => K p0 p1 p2 p3

/-- Wait for a layer's departures of a kind. -/
def sents (b : Bool) (k : Fin 3) (K : P F) : P F :=
  sent (b, k, 0) <| sent (b, k, 1) <| sent (b, k, 2) <| sent (b, k, 3) K

/-- The kernel's body. -/
def body (x o : Memref sig .tc .vmem S256x256 .f32) : P F :=
  .op .deviceId fun d =>
  copyW (true, 0) <| copyW (false, 0) <| copyW (true, 1) <| copyW (false, 1) <| copyW (true, 2) <| copyW (false, 2) <|
  Prog.bind (semSignalWord (rowD d) barS 1#32) fun _ =>
  Prog.bind (semSignalWord (colD d) barS 1#32) fun _ =>
  Prog.bind (semWaitWord barS 2#32) fun _ =>
  loadX x 0 fun v0 => loadX x 1 fun v1 => loadX x 2 fun v2 => loadX x 3 fun v3 =>
  waitW (true, 0) <|
  sendH d 0 0 (xChunk v0) fun p0 => sendH d 0 1 (xChunk v1) fun p1 =>
  sendH d 0 2 (xChunk v2) fun p2 => sendH d 0 3 (xChunk v3) fun p3 =>
  halfH d 0 p0 p1 p2 p3 fun q0 q1 q2 q3 => halfO d 0 1 q0 q1 q2 q3 fun p0 p1 p2 p3 =>
  halfH d 1 p0 p1 p2 p3 fun q0 q1 q2 q3 => halfO d 1 2 q0 q1 q2 q3 fun p0 p1 p2 p3 =>
  halfH d 2 p0 p1 p2 p3 fun q0 q1 q2 q3 =>
  recv (false, 2, 0) fun r0 => recv (false, 2, 1) fun r1 => recv (false, 2, 2) fun r2 => recv (false, 2, 3) fun r3 =>
  storeX o 0 (outChunk (sumO q0 r0)) <| storeX o 1 (outChunk (sumO q1 r1)) <|
  storeX o 2 (outChunk (sumO q2 r2)) <| storeX o 3 (outChunk (sumO q3 r3)) <|
  sents true 0 <| sents true 1 <| sents true 2 <| sents false 0 <| sents false 1 <| sents false 2 <| .ret ⟨⟩

set_option maxRecDepth 65536 in
/-- The printed body is this program. -/
theorem bodyAt_eq (t : Fin cfg0.N) : bodyAt0 (F := F) t = body (Memref.whole cc0_stg0_0) (Memref.whole cc0_stg1_0) := by
  rfl

end Cert.Mlp

end
-- ==== Proof.Values.lean ====
/-
  The values the kernel computes, device by device: each layer's partial hidden blocks, hidden
  blocks, partial output blocks and output blocks, in chunks of 64 rows, as functions of the
  arrays the devices hold.
-/
module

public import proofs.«01_k».proof.Proof.Program

@[expose] public section

set_option synthInstance.maxSize 4096

noncomputable section

namespace Cert.Mlp

open Idealize.ShloMosaic Idealize.ShloMosaic.TcCoe
open Idealize.SL Idealize.SL.Sem
open Cert.KernelIdeal Cert.KernelIdeal.Gen

variable {F : FTy → Type} [FloatOps F]

/-- A chunk of 64 rows of a block of activations. -/
def rowsOf (a : Vec F S256x256 .f32) (c : Fin 4) : Vec F S64x256 .f32 := fun i => a ((chunkR c).emb i)

section Layer

-- The weights of the devices.
variable (wa : (w : Wt) → Dev nD → (wtS w.1).Idx → Elt F .f32)

variable (X : Dev nD → Fin 4 → Act F) (k : Fin 3)
/-- From a layer's input: a device's partial hidden block of a chunk, -/
def hidP (d : Dev nD) (c : Fin 4) : Hid F := partH (X d c) (wa (true, k) d)
/-- its hidden block, the other part from the device beside it, -/
def hid (d : Dev nD) (c : Fin 4) : Hid F := actH (hidP wa X k d c) (slotH (hidP wa X k (peer true d) c))
/-- its partial output block, -/
def outP (d : Dev nD) (c : Fin 4) : Act F := partO (hid wa X k d c) (wa (false, k) d)
/-- and its output block, the other part from the device in its column. -/
def outB (d : Dev nD) (c : Fin 4) : Act F := sumO (outP wa X k d c) (slotO (outP wa X k (peer false d) c))

end Layer

section Net

variable (xa : Dev nD → Vec F S256x256 .f32) (wa : (w : Wt) → Dev nD → (wtS w.1).Idx → Elt F .f32)

/-- The input of layer `k` (at 3, the last layer's output). -/
def act : ℕ → Dev nD → Fin 4 → Act F
  | 0 => fun d c => xChunk (rowsOf (xa d) c)
  | k + 1 => fun d c => outB wa (act k) (Fin.ofNat 3 k) d c

theorem act_succ (k k' : Fin 3) (h : k'.val = k.val + 1) (d : Dev nD) (c : Fin 4) :
    act xa wa k'.val d c = outB wa (act xa wa k.val) k d c := by
  rw [h]
  show outB wa (act xa wa k.val) (Fin.ofNat 3 k.val) d c = _
  rw [show Fin.ofNat 3 k.val = k from Fin.ext (Nat.mod_eq_of_lt k.isLt)]

/-- What a message from device `d` carries. -/
def msgV : (j : Msg) → Dev nD → (slotS j.1).Idx → Elt F .bf16
  | (true, k, c) => fun d => slotH (hidP wa (act xa wa k.val) k d c)
  | (false, k, c) => fun d => slotO (outP wa (act xa wa k.val) k d c)

/-- A device's result: its chunks, one under the other. -/
def outV (d : Dev nD) : Vec F S256x256 .f32 := fun i =>
  outChunk (act xa wa 3 d ⟨(i 0).val / 64, by have := (i 0).isLt; simp at this; omega⟩)
    (fun a => match a with
      | 0 => ⟨(i 0).val % 64, Nat.mod_lt _ (by decide)⟩
      | 1 => ⟨(i 1).val, (i 1).isLt⟩)

end Net

end Cert.Mlp

end
-- ==== Proof.Proto.lean ====
/-
  The protocol: which semaphore counts what, who pays it, and what each payment hands over.

  Each device has a barrier cell, a departure cell and an arrival cell per message, and a cell per
  weight copy; each cell runs one round. The barrier's two units come from the device beside it in
  its row (handing over that device's arrival slots for hidden blocks) and from the one in its
  column (the arrival slots for output blocks). A departure cell hands the slot back, an arrival
  cell the slot holding the peer's block, a weight's cell the weight's slot holding the weight.
-/
module

public import proofs.«01_k».proof.Proof.Values
public import proofs.«01_k».proof.Proof.Gen.KernelIdeal.Launch
public import proofs.«01_k».proof.Proof.Gen.KernelIdeal.Frame
public import Idealize.ShloMosaic.Lib.Pipeline.Launch
public import Idealize.ShloMosaic.Lib.Pipeline.Kit
public import Idealize.ShloMosaic.Lib.Tactic

@[expose] public section

set_option synthInstance.maxSize 4096

noncomputable section

namespace Cert.Mlp

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The ghost state: the pipeline's rounds and the protocol's. -/
abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ### The mesh -/

theorem peer_peer (b : Bool) (d : Dev nD) : peer b (peer b d) = d := by
  revert b d; decide +kernel

/-- The exchange along a direction of the mesh. -/
def swap (b : Bool) : Dev nD ≃ Dev nD := ⟨peer b, peer b, peer_peer b, peer_peer b⟩

/-! ### The cells -/

/-- A device's cells: the barrier's, a message's departure, a message's arrival, a weight's copy. -/
abbrev CK := Option (Msg ⊕ Msg ⊕ Wt)
abbrev bar : CK := none
abbrev snd (j : Msg) : CK := some (.inl j)
abbrev rcv (j : Msg) : CK := some (.inr (.inl j))
abbrev wt (w : Wt) : CK := some (.inr (.inr w))

/-- The semaphore of a cell. -/
def csem : CK → SemLoc sig
  | none => .reg barS
  | some (.inl j) => .dma (ssem j)
  | some (.inr (.inl j)) => .dma (rsem j)
  | some (.inr (.inr w)) => .dma (wsem w)

theorem csem_injective : Function.Injective csem :=
  (by decide +kernel : ∀ a b : CK, csem a = csem b → a = b)

abbrev kcell (x : Dev nD × CK) : GSem nD τ sig := ((x.1 : Thread nD τ), csem x.2)

open Classical in
/-- The cell a semaphore is, if it is one. -/
def kind (s : SemLoc sig) : Option CK := if h : ∃ k, csem k = s then some h.choose else none

theorem kind_csem (k : CK) : kind (csem k) = some k := by
  have h : ∃ k', csem k' = csem k := ⟨k, rfl⟩
  unfold kind
  rw [dif_pos h]
  exact congrArg some (csem_injective h.choose_spec)

theorem kind_some {s : SemLoc sig} {k : CK} (h : kind s = some k) : csem k = s := by
  unfold kind at h
  split at h
  · rename_i h'; rw [← Option.some.inj h]; exact h'.choose_spec
  · cases h

theorem kcell_injective : Function.Injective kcell := by
  rintro ⟨d, k⟩ ⟨d', k'⟩ h
  have h1 : (d : Thread nD τ) = (d' : Thread nD τ) := congrArg Prod.fst h
  have h2 := csem_injective (congrArg Prod.snd h : csem k = csem k')
  have h3 : d = d' := congrArg Prod.fst h1
  exact Prod.ext h3 h2

/-! ### Contents -/

/-- A memref's elements at contents `f`, -/
def pts (d : Dev nD) {sp : Space} {s : Shape} {e : EltTy} (M : Memref sig .tc sp s e)
    (f : Buf (Elt F) (M.view.loc (d : Thread nD τ))) : sProp 𝕄 :=
  M.view.loc (d : Thread nD τ) ↦[M.view.set]{fullShare} f
/-- and at any contents. -/
def anyPts (d : Dev nD) {sp : Space} {s : Shape} {e : EltTy} (M : Memref sig .tc sp s e) : sProp 𝕄 :=
  iprop(∃ f, pts d M f)
/-- A memref's elements where it reads as `X`. -/
def own (d : Dev nD) {sp : Space} {s : Shape} {e : EltTy} (M : Memref sig .tc sp s e) (X : s.Idx → Elt F e) : sProp 𝕄 :=
  iprop(∃ f, ⌜M.view.read (Elt F) f = X⌝ ∗ pts d M f)

instance pts_storable (d : Dev nD) {sp : Space} {s : Shape} {e : EltTy} (M : Memref sig .tc sp s e) (f) :
    BI.Storable (upEmb : UEmb _ 𝕄) (pts (F := F) d M f) := by unfold pts; infer_instance
instance anyPts_storable (d : Dev nD) {sp : Space} {s : Shape} {e : EltTy} (M : Memref sig .tc sp s e) :
    BI.Storable (upEmb : UEmb _ 𝕄) (anyPts (F := F) d M) := by unfold anyPts; infer_instance
instance own_storable (d : Dev nD) {sp : Space} {s : Shape} {e : EltTy} (M : Memref sig .tc sp s e) (X) :
    BI.Storable (upEmb : UEmb _ 𝕄) (own (F := F) d M X) := by unfold own; infer_instance

/-- Device `d`'s columns of the activations, as the pipeline brings them in, -/
def xstg (d : Dev nD) : (cc0_stg0_0 : Ref sig .tc).ty.Contents (Elt F) :=
  (win0_0.blk (0 : Fin 1)).view.read (Elt F) (m ((d : Thread nD τ).loc main_arg0))
/-- and its blocks of the weights. -/
def wval (w : Wt) (d : Dev nD) : (wtS w.1).Idx → Elt F .f32 :=
  (whbm w).view.read (Elt F) (m ((whbm w).view.loc (d : Thread nD τ)))
/-- What a message from device `d` carries. -/
abbrev mval (j : Msg) (d : Dev nD) : (slotS j.1).Idx → Elt F .bf16 := msgV (xstg m) (wval m) j d

/-! ### The schedule -/

/-- The credit a message's transfer counts, and a weight's. -/
def msgN (j : Msg) : ℕ := (dstM j).view.dmaCredit
def wtN (w : Wt) : ℕ := (wslotM w).view.dmaCredit

theorem blk_pos (b : Bool) : 0 < (blkS b).numel := by cases b <;> decide
theorem msgN_pos (j : Msg) : 0 < msgN j := View.dmaCredit_pos _ (blk_pos j.1)
theorem wtN_pos (w : Wt) : 0 < wtN w := View.dmaCredit_pos _ (wt_pos w.1)
theorem msgN_src (j : Msg) : (srcM j).view.dmaCredit = msgN j := by
  obtain ⟨b, k, c⟩ := j; cases b <;> rfl

/-- A cell's duties, -/
def dutK : CK → Finset Bool
  | none => Finset.univ
  | some _ => {false}
/-- what a payment of one adds, -/
def amtK : CK → ℕ
  | none => 1
  | some (.inl j) => msgN j
  | some (.inr (.inl j)) => msgN j
  | some (.inr (.inr w)) => wtN w
/-- and what it hands over. -/
def payK (d : Dev nD) : CK → Bool → sProp 𝕄
  | none, b => bigSep Finset.univ fun kc : Fin 3 × Fin 4 => anyPts (peer b d) (dstS (b, kc))
  | some (.inl j), _ => anyPts d (srcS j)
  | some (.inr (.inl j)), _ => own d (dstS j) (mval m j (peer j.1 d))
  | some (.inr (.inr w)), _ => iprop(own d (wslotM w) (wval m w d) ∗ pts d (whbm w) (m _))

theorem amtK_pos : ∀ k, 0 < amtK k
  | none => Nat.one_pos
  | some (.inl j) => msgN_pos j
  | some (.inr (.inl j)) => msgN_pos j
  | some (.inr (.inr w)) => wtN_pos w

instance payK_storable (d : Dev nD) (k : CK) (b : Bool) : BI.Storable (upEmb : UEmb _ 𝕄) (payK (F := F) m d k b) := by
  rcases k with _ | j | j | w <;> unfold payK <;> infer_instance

/-- One round on every cell. -/
def Rd : Rounds.Schedule (GSem nD τ sig) Bool 𝕄 where
  duties g r := if r = 0 ∧ g.1.2 = .tc then (kind g.2).elim ∅ dutK else ∅
  unitless _ := False
  amount g _ _ := (kind g.2).elim 1 amtK
  payload g _ b := (kind g.2).elim iprop(emp) fun k => payK m g.1.1 k b
  amount_pos g _ _ _ := by
    rcases h : kind g.2 with _ | k
    · exact Nat.one_pos
    · exact amtK_pos k

instance Rd_payload_storable (g : GSem nD τ sig) (r : ℕ) (b : Bool) :
    BI.Storable (upEmb : UEmb _ 𝕄) ((Rd (F := F) m).payload g r b) := by
  show BI.Storable upEmb ((kind g.2).elim iprop(emp) fun k => payK m g.1.1 k b)
  rcases h : kind g.2 with _ | k
  · show BI.Storable upEmb iprop(emp); infer_instance
  · show BI.Storable upEmb (payK m g.1.1 k b); infer_instance

theorem duties_eq (x : Dev nD × CK) : (Rd (F := F) m).duties (kcell x) 0 = dutK x.2 := by
  dsimp only [Rd]; rw [if_pos ⟨rfl, rfl⟩, kind_csem]; rfl
theorem duties_later (g : GSem nD τ sig) : ∀ r, 1 ≤ r → (Rd (F := F) m).duties g r = ∅ :=
  fun r hr => by dsimp only [Rd]; rw [if_neg fun h => by omega]
theorem amount_eq (x : Dev nD × CK) (b : Bool) : (Rd (F := F) m).amount (kcell x) 0 b = amtK x.2 := by
  dsimp only [Rd]; rw [kind_csem]; rfl
theorem payload_eq (x : Dev nD × CK) (b : Bool) : (Rd (F := F) m).payload (kcell x) 0 b = payK m x.1 x.2 b := by
  dsimp only [Rd]; rw [kind_csem]; rfl

/-- What a cell's round adds up to. -/
def expK : CK → ℕ
  | none => 2
  | k => amtK k

theorem expect_eq (x : Dev nD × CK) : (Rd (F := F) m).expect (kcell x) 0 = expK x.2 := by
  unfold Schedule.expect Schedule.amountOf
  rw [duties_eq, Finset.sum_congr rfl fun b _ => amount_eq m x b]
  obtain ⟨d, k⟩ := x
  rcases k with _ | k
  · rfl
  · exact Finset.sum_singleton _ _

theorem rest_some (d : Dev nD) (k : Msg ⊕ Msg ⊕ Wt) :
    bigSep ((Rd (F := F) m).duties (kcell (d, some k)) 0 \ ∅) (fun b => (Rd (F := F) m).payload (kcell (d, some k)) 0 b)
      = payK m d (some k) false := by
  rw [Finset.sdiff_empty, duties_eq]
  show bigSep {false} _ = _
  rw [bigSep_singleton, payload_eq]

theorem rest_bar (d : Dev nD) :
    bigSep ((Rd (F := F) m).duties (kcell (d, bar)) 0 \ ∅) (fun b => (Rd (F := F) m).payload (kcell (d, bar)) 0 b)
      = bigSep Finset.univ fun b : Bool => payK m d bar b := by
  rw [Finset.sdiff_empty, duties_eq]
  exact bigSep_congr fun b _ => payload_eq m _ b

/-! ### The order of the messages, and what is owed -/

/-- A message's position in the order in which a device sends and awaits them. -/
def pos (j : Msg) : ℕ := 8 * j.2.1.val + cond j.1 0 4 + j.2.2.val
theorem pos_injective : Function.Injective pos := (by decide +kernel : ∀ a b : Msg, pos a = pos b → a = b)
theorem pos_lt (j : Msg) : pos j < 24 := by revert j; decide +kernel

/-- The elements at or past `n` in an order, and those before. -/
abbrev past {ι : Type} [Fintype ι] (p : ι → ℕ) (n : ℕ) : Finset ι := Finset.univ.filter fun j => n ≤ p j
abbrev before {ι : Type} [Fintype ι] (p : ι → ℕ) (n : ℕ) : Finset ι := Finset.univ.filter fun j => p j < n

section Order
variable {ι : Type} [Fintype ι] [DecidableEq ι] {p : ι → ℕ} (hp : Function.Injective p) {n : ℕ} {j : ι} (hj : p j = n)
include hp hj

theorem past_insert : past p n = insert j (past p (n + 1)) := by
  ext i
  simp only [Finset.mem_filter, Finset.mem_univ, true_and, Finset.mem_insert]
  constructor
  · intro h
    by_cases e : p i = n
    · exact .inl (hp (e.trans hj.symm))
    · exact .inr (by omega)
  · rintro (rfl | h) <;> omega
theorem before_insert : before p (n + 1) = insert j (before p n) := by
  ext i
  simp only [Finset.mem_filter, Finset.mem_univ, true_and, Finset.mem_insert]
  constructor
  · intro h
    by_cases e : p i = n
    · exact .inl (hp (e.trans hj.symm))
    · exact .inr (by omega)
  · rintro (rfl | h) <;> omega

theorem past_peel (Φ : ι → sProp 𝕄) : bigSep (past p n) Φ = iprop(Φ j ∗ bigSep (past p (n + 1)) Φ) := by
  rw [past_insert hp hj, bigSep_insert (by simp only [Finset.mem_filter, Finset.mem_univ, true_and]; omega)]
  rfl
theorem before_push (Φ : ι → sProp 𝕄) : bigSep (before p (n + 1)) Φ = iprop(Φ j ∗ bigSep (before p n) Φ) := by
  rw [before_insert hp hj, bigSep_insert (by simp only [Finset.mem_filter, Finset.mem_univ, true_and]; omega)]
  rfl
end Order

theorem past_zero {ι : Type} [Fintype ι] (p : ι → ℕ) : past p 0 = Finset.univ := Finset.filter_true_of_mem fun _ _ => Nat.zero_le _
theorem before_zero {ι : Type} [Fintype ι] (p : ι → ℕ) : before p 0 = ∅ := Finset.filter_false_of_mem fun _ _ => Nat.not_lt_zero _
theorem before_top {ι : Type} [Fintype ι] {p : ι → ℕ} {n : ℕ} (h : ∀ j, p j < n) : before p n = Finset.univ := Finset.filter_true_of_mem fun j _ => h j
theorem past_top {ι : Type} [Fintype ι] {p : ι → ℕ} {n : ℕ} (h : ∀ j, p j < n) : past p n = ∅ :=
  Finset.filter_false_of_mem fun j _ => Nat.not_le_of_lt (h j)

/-- The arrival credit device `d` still owes when the messages before `n` are sent. -/
def owed (d : Dev nD) (n : ℕ) : CellTallies nD τ sig Unit :=
  ∑ j ∈ past pos n, tallyAt (kcell (peer j.1 d, rcv j)) () (msgN j)

theorem owed_peel (d : Dev nD) {n : ℕ} {j : Msg} (hj : pos j = n) :
    owed d n = owed d (n + 1) + tallyAt (kcell (peer j.1 d, rcv j)) () (msgN j) := by
  unfold owed
  rw [past_insert pos_injective hj, Finset.sum_insert (by simp only [Finset.mem_filter, Finset.mem_univ, true_and]; omega), add_comm]

theorem owed_top (d : Dev nD) : owed d 24 = 0 := by
  unfold owed; rw [past_top pos_lt, Finset.sum_empty]

theorem owed_pos {d : Dev nD} {n : ℕ} {g : GSem nD τ sig} {u : Unit} (h : 0 < owed d n g u) :
    ∃ j, n ≤ pos j ∧ g = kcell (peer j.1 d, rcv j) := by
  by_contra hn
  have hz : owed d n g u = 0 := by
    unfold owed
    rw [Finset.sum_apply, Finsupp.finset_sum_apply]
    refine Finset.sum_eq_zero fun j hj => ?_
    rw [tallyAt_apply, if_neg]
    exact fun e => hn ⟨j, (Finset.mem_filter.mp hj).2, e.1⟩
  omega

/-- What it owes at launch: that and a unit to each of its two neighbours' barriers. -/
def O₁ (d : Dev nD) : CellTallies nD τ sig Unit := owed d 0 + tallyAt (kcell (peer false d, bar)) () 1
def O₀ (d : Dev nD) : CellTallies nD τ sig Unit := O₁ d + tallyAt (kcell (peer true d, bar)) () 1

theorem O₀_pos {d : Dev nD} {g : GSem nD τ sig} {u : Unit} (h : 0 < O₀ d g u) :
    (∃ j, g = kcell (peer j.1 d, rcv j)) ∨ ∃ b, g = kcell (peer b d, bar) := by
  by_contra hn
  rw [not_or] at hn
  have hb : ∀ b, tallyAt (kcell (peer b d, bar)) () 1 g u = 0 := fun b => by
    rw [tallyAt_apply, if_neg fun e => hn.2 ⟨b, e.1⟩]
  have hz : owed d 0 g u = 0 := by
    by_contra h0
    obtain ⟨j, -, e⟩ := owed_pos (Nat.pos_of_ne_zero h0)
    exact hn.1 ⟨j, e⟩
  have he : O₀ d g u = owed d 0 g u + tallyAt (kcell (peer false d, bar)) () 1 g u + tallyAt (kcell (peer true d, bar)) () 1 g u := rfl
  rw [he, hz, hb, hb] at h
  exact Nat.lt_irrefl 0 h

/-! ### Levels -/

def L (g : GSem nD τ sig) : Finset Unit := if g.1.2 = .tc then {()} else ∅
theorem L_of_ne (g : GSem nD τ sig) (h : g.1.2 ≠ .tc) : L g = ∅ := if_neg h
theorem L_tc (d : Dev nD) (s : SemLoc sig) : L ((d : Thread nD τ), s) = {()} := if_pos rfl

/-- A cell's level: departures and weights below the barrier, the arrivals above it in their order. -/
def lvK : CK → ℕ
  | none => 1
  | some (.inr (.inl j)) => pos j + 2
  | _ => 0
def lv (g : GSem nD τ sig) (_ : Unit) : ℕ := (kind g.2).elim 0 lvK
theorem lv_kcell (x : Dev nD × CK) (u : Unit) : lv (kcell x) u = lvK x.2 := by
  unfold lv; rw [kind_csem]; rfl

/-- A wait on a cell whose level is below that of all that is owed is allowed: on one of a
    device's cells while messages are owed, -/
theorem mayWait_owed (d : Dev nD) (k : CK) (n : ℕ) (hk : lvK k ≤ n + 1) :
    (levAts L lv : sProp 𝕄) ⊢ MayWait (d : Thread nD τ) (csem k) () (owed d n) :=
  MayOwe.of_cut (L := L) (lev := lv) (n + 1) (fun p hp => by rw [Finset.mem_singleton.mp hp, L_tc]; exact Finset.mem_singleton_self _)
    (fun g u hg => by obtain ⟨j, -, rfl⟩ := owed_pos hg; exact Finset.mem_singleton_self _)
    (fun p hp => by rw [Finset.mem_singleton.mp hp]; exact (lv_kcell (d, k) ()).trans_le hk)
    (fun g u hg => by
      obtain ⟨j, hj, rfl⟩ := owed_pos hg
      rw [lv_kcell]; show n + 1 < pos j + 2; omega)

/-- and on a semaphore outside the protocol at the launch and at the end. -/
theorem mayWait_stage (d : Dev nD) (q : DmaSem sig) (hq : kind (.dma q) = none) (O : CellTallies nD τ sig Unit) (hO : O = O₀ d ∨ O = 0) :
    (levAts L lv : sProp 𝕄) ⊢ MayWait (d : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨j, rfl⟩ | ⟨b, rfl⟩ <;> exact Finset.mem_singleton_self _)
      (fun p hp => by rw [Finset.mem_singleton.mp hp]; unfold lv; rw [hq]; exact le_rfl)
      (fun g u hg => by
        rcases O₀_pos hg with ⟨j, rfl⟩ | ⟨b, rfl⟩ <;> rw [lv_kcell]
        · show 0 < pos j + 2; omega
        · exact Nat.one_pos)
  · rw [MayWait_zero]; iintro -; iempintro

end Cert.Mlp

end
-- ==== Proof.Steps.lean ====
/-
  What each step of the body does to a device's state. The state is indexed by how many messages
  are sent, how many are received and how many weights have arrived.
-/
module

public import proofs.«01_k».proof.Proof.Proto

@[expose] public section

set_option synthInstance.maxSize 4096

noncomputable section

namespace Cert.Mlp

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CK → ℕ) (d : Dev nD)

abbrev 𝒱₀ : Variants := Variants.none

/-- A program of device `d`'s core reaches `Q`. -/
abbrev runs (p : P F) (Q : PUnit → sProp 𝕄) : sProp 𝕄 :=
  wp frame (wpE (defs₀ (F := F)) 𝒱₀ (d : Thread nD τ) none) Set.univ p Q

/-! ### The state -/

/-- Every cell's invariant, under the names `K`, and that its first round is open. -/
def recs : sProp 𝕄 :=
  iprop((bigSep Finset.univ fun x : Dev nD × CK => cellInv ER (Rd m) (K x) (kcell x))
    ∗ bigSep Finset.univ fun x : Dev nD × CK => reached ER (kcell x) 0)

instance recs_persistent : BI.Persistent (recs (F := F) m K) := by unfold recs; infer_instance

theorem inv_elim (x : Dev nD × CK) :
    (bigSep Finset.univ fun x : Dev nD × CK => (cellInv ER (Rd m) (K x) (kcell x) : sProp 𝕄)) ⊢ cellInv ER (Rd m) (K x) (kcell x) :=
  bigSep_elim (Finset.mem_univ x)
theorem reached_elim (x : Dev nD × CK) :
    (bigSep Finset.univ fun x : Dev nD × CK => (reached ER (kcell x) 0 : sProp 𝕄)) ⊢ reached ER (kcell x) 0 :=
  bigSep_elim (Finset.mem_univ x)

theorem recs_inv (x : Dev nD × CK) : recs (F := F) m K ⊢ cellInv ER (Rd m) (K x) (kcell x) := by
  unfold recs
  iintro ⟨H, -⟩
  iapply (inv_elim m K x); iexact H
theorem recs_reached (x : Dev nD × CK) : recs (F := F) m K ⊢ reached ER (kcell x) 0 := by
  unfold recs
  iintro ⟨-, H⟩
  iapply (reached_elim x); iexact H

/-- What a message not yet sent needs: its slot here, its slot there, and the right to pay both its
    cells; -/
def unsent (j : Msg) : sProp 𝕄 :=
  iprop(anyPts d (srcS j) ∗ anyPts (peer j.1 d) (dstS j)
    ∗ dutyTok ER (kcell (d, snd j)) 0 false ∗ dutyTok ER (kcell (peer j.1 d, rcv j)) 0 false)
/-- what is left of a sent one: the right to await its departure; -/
def left (j : Msg) : sProp 𝕄 := cred (tallyAt (kcell (d, snd j)) () (msgN j))
/-- what an awaited one needs, -/
def awaited (j : Msg) : sProp 𝕄 :=
  iprop(cred (tallyAt (kcell (d, rcv j)) () (msgN j)) ∗ atPos ER (kcell (d, rcv j)) 0 ∅ 0)
/-- and what is left of a received one. -/
def got (j : Msg) : sProp 𝕄 := iprop(anyPts d (dstS j) ∗ semVal (kcell (d, rcv j)) 0)
/-- A weight before its copy, under way, and arrived. -/
def wfresh (w : Wt) : sProp 𝕄 :=
  iprop(anyPts d (wslotM w) ∗ pts d (whbm w) (m _) ∗ dutyTok ER (kcell (d, wt w)) 0 false)
def wcopying (w : Wt) : sProp 𝕄 := cred (tallyAt (kcell (d, wt w)) () (wtN w))
def wawaited (w : Wt) : sProp 𝕄 := iprop(wcopying d w ∗ atPos ER (kcell (d, wt w)) 0 ∅ 0)
def wheld (w : Wt) : sProp 𝕄 :=
  iprop(own d (wslotM w) (wval m w d) ∗ pts d (whbm w) (m _) ∗ semVal (kcell (d, wt w)) 0)

/-- A weight's position as a number. -/
abbrev wp' (w : Wt) : ℕ := (wpos w).val
theorem wp'_injective : Function.Injective wp' := (by decide +kernel : ∀ a b : Wt, wp' a = wp' b → a = b)
theorem wp'_lt (w : Wt) : wp' w < 6 := (wpos w).isLt

/-- The state after `n` sends, `r` receipts and `p` weights' arrivals. -/
def St (n r p : ℕ) : sProp 𝕄 :=
  iprop(recs m K ∗ levAts L lv ∗ (∃ W, owes (d : Thread nD τ) (owed d n) W)
    ∗ bigSep (past pos n) (unsent d) ∗ bigSep (before pos n) (left d)
    ∗ bigSep (past pos r) (awaited d) ∗ bigSep (before pos r) (got d)
    ∗ bigSep (past wp' p) (wawaited d) ∗ bigSep (before wp' p) (wheld m d))

/-- The state before a send and before a receipt, the message taken out. -/
theorem St_sending {j : Msg} {n r p : ℕ} (hj : pos j = n) : St m K d n r p
    = iprop(recs m K ∗ levAts L lv ∗ (∃ W, owes (d : Thread nD τ) (owed d (n + 1) + tallyAt (kcell (peer j.1 d, rcv j)) () (msgN j)) W)
      ∗ (((∃ f, pts d (srcS j) f) ∗ (∃ f, pts (peer j.1 d) (dstS j) f)
          ∗ dutyTok ER (kcell (d, snd j)) 0 false ∗ dutyTok ER (kcell (peer j.1 d, rcv j)) 0 false) ∗ bigSep (past pos (n + 1)) (unsent d))
      ∗ bigSep (before pos n) (left d)
      ∗ bigSep (past pos r) (awaited d) ∗ bigSep (before pos r) (got d)
      ∗ bigSep (past wp' p) (wawaited d) ∗ bigSep (before wp' p) (wheld m d)) := by
  unfold St; rw [past_peel pos_injective hj, owed_peel d hj]; rfl
theorem St_receiving {j : Msg} {n r p : ℕ} (hj : pos j = r) : St m K d n r p
    = iprop(recs m K ∗ levAts L lv ∗ (∃ W, owes (d : Thread nD τ) (owed d n) W)
      ∗ bigSep (past pos n) (unsent d) ∗ bigSep (before pos n) (left d)
      ∗ ((cred (tallyAt (kcell (d, rcv j)) () (msgN j)) ∗ atPos ER (kcell (d, rcv j)) 0 ∅ 0) ∗ bigSep (past pos (r + 1)) (awaited d))
      ∗ bigSep (before pos r) (got d)
      ∗ bigSep (past wp' p) (wawaited d) ∗ bigSep (before wp' p) (wheld m d)) := by
  unfold St; rw [past_peel pos_injective hj]; rfl

/-! ### Slots and their matrices -/

theorem set_srcM (j : Msg) : (srcM j).view.set = (srcS j).view.set := View.set_reshape _ _
theorem set_dstM (j : Msg) : (dstM j).view.set = (dstS j).view.set := View.set_reshape _ _

/-- Writing a matrix read off one slot into another is writing the slot. -/
theorem read_write_reshape {sp sp' : Space} {s s' : Shape} {e : EltTy} (v : View sig .tc sp s e) (u : View sig .tc sp' s e)
    (h : s'.numel = s.numel) (f : v.ty.Contents (Elt F)) (g : u.ty.Contents (Elt F)) :
    v.read (Elt F) ((v.reshape s' h).write (Elt F) f ((u.reshape s' h).read (Elt F) g) Finset.univ) = u.read (Elt F) g := by
  funext x
  obtain ⟨y, rfl⟩ := (Shape.reshapeEquiv h).surjective x
  have h1 := View.read_write_of_mem (Val := Elt F) (v := v.reshape s' h) f ((u.reshape s' h).read (Elt F) g) (Finset.mem_univ y)
  exact h1

/-! ### Sends and receipts -/

/-- The slot written, as it leaves, -/
def written (j : Msg) (v : (slotS j.1).Idx → Elt F .bf16) (f : Buf (Elt F) ((srcS j).view.loc (d : Thread nD τ))) :
    Buf (Elt F) ((srcS j).view.loc (d : Thread nD τ)) := (srcS j).view.write (Elt F) f v Finset.univ

theorem pay_snd (j : Msg) (f : Buf (Elt F) ((srcS j).view.loc (d : Thread nD τ))) :
    ((srcM j).view.loc (d : Thread nD τ) ↦[(srcM j).view.set]{fullShare} f : sProp 𝕄) ⊢ (Rd m).payload (kcell (d, snd j)) 0 false := by
  rw [payload_eq m (d, snd j), set_srcM]
  show _ ⊢ anyPts d (srcS j)
  unfold anyPts pts
  iintro H; iexists f; iexact H

/-- and as it arrives. -/
theorem pay_rcv (j : Msg) (f : Buf (Elt F) ((srcS j).view.loc (d : Thread nD τ)))
    (g : Buf (Elt F) ((dstM j).view.loc (peer j.1 d : Thread nD τ))) :
    ((dstM j).view.loc (peer j.1 d : Thread nD τ) ↦[(dstM j).view.set]{fullShare}
        ((dstM j).view.write (Elt F) g ((srcM j).view.read (Elt F) (written d j (mval m j d) f)) Finset.univ) : sProp 𝕄)
      ⊢ (Rd m).payload (kcell (peer j.1 d, rcv j)) 0 false := by
  rw [payload_eq m (peer j.1 d, rcv j), set_dstM]
  show _ ⊢ own (peer j.1 d) (dstS j) (mval m j (peer j.1 (peer j.1 d)))
  have hw : (dstS j).view.read (Elt F) ((dstM j).view.write (Elt F) g ((srcM j).view.read (Elt F) (written d j (mval m j d) f)) Finset.univ)
      = mval m j (peer j.1 (peer j.1 d)) := by
    rw [peer_peer]
    exact (read_write_reshape _ _ _ _ _).trans (View.read_write_univ _ _)
  generalize (dstM j).view.write (Elt F) g ((srcM j).view.read (Elt F) (written d j (mval m j d) f)) Finset.univ = w at hw
  unfold own pts
  iintro H; iexists w
  isplitr
  · ipureintro; exact hw
  iexact H

theorem runs_send {j : Msg} {n r p : ℕ} (hj : pos j = n) (v : (slotS j.1).Idx → Elt F .bf16) (hv : v = mval m j d)
    (p₁ : P F) (Q : PUnit → sProp 𝕄) :
    iprop(St m K d n r p ∗ (St m K d (n + 1) r p -∗ runs d p₁ Q)) ⊢ runs d (send j (peer j.1 d) v p₁) Q := by
  subst hv
  unfold send runs
  rw [St_sending m K d hj]
  iintro ⟨⟨#Hr, #Hl, ⟨%W, HO⟩, ⟨⟨⟨%f, Hs⟩, ⟨%g, Hd⟩, Ht, Ht'⟩, Hu⟩, Hrest⟩, Hk⟩
  unfold pts
  iapply (wp_load_rect 𝒱₀ (d : Thread nD τ) none Set.univ (m := sndM j.1) (r := slotR j) (S := (srcS j).view.set) subset_rfl) $$ Hs
  iintro Hs
  iapply (wp_store 𝒱₀ (d : Thread nD τ) none Set.univ (m := sndM j.1) (r := slotR j) (Mk := Finset.univ) (S := (srcS j).view.set)
    (by rw [View.setOn_univ])) $$ Hs
  iintro Hs
  rw [← set_srcM, ← set_dstM]
  iapply (Rounds.wp_send_pointsTo 𝒱₀ ER (Rd m) (d : Thread nD τ) none (c' := (peer j.1 d : Thread nD τ))
    (src := srcM j) (dst := dstM j) (fs := written d j (mval m j d) f) (fd := g) (κ₁ := K (d, snd j)) (κ₂ := K (peer j.1 d, rcv j))
    (r₁ := 0) (r₂ := 0) (d₁ := false) (d₂ := false)
    (sS := csem (snd j)) (sem := csem (rcv j))
    (by rw [duties_eq m (d, snd j)]; exact Finset.mem_singleton_self _)
    (by rw [duties_eq m (peer j.1 d, rcv j)]; exact Finset.mem_singleton_self _)
    () () (msgN j) rfl (amount_eq m (d, snd j) false) (amount_eq m (peer j.1 d, rcv j) false) (owed d (n + 1)) rfl
    (pay_snd m d j _) (pay_rcv m d j f g))
    $$ [HO Hs Hd Ht Ht']
  · isplitr; · iapply (recs_inv m K (d, snd j)); iexact Hr
    isplitr; · iapply (recs_inv m K (peer j.1 d, rcv j)); iexact Hr
    isplitl [Hs]; · iexact Hs
    isplitl [Hd]; · iexact Hd
    isplitl [HO]; · iexact HO
    isplitl [Ht]; · iexact Ht
    isplitr; · iapply (recs_reached m K (d, snd j)); iexact Hr
    isplitl [Ht']; · iexact Ht'
    iapply (recs_reached m K (peer j.1 d, rcv j)); iexact Hr
  iintro ⟨Hc, HO⟩
  iapply Hk
  icases Hrest with ⟨Hb, Hrest⟩
  unfold St
  isplitr; · iexact Hr
  isplitr; · iexact Hl
  isplitl [HO]; · iexists W; iexact HO
  isplitl [Hu]; · iexact Hu
  isplitl [Hc Hb]
  · rw [before_push pos_injective hj]
    isplitl [Hc]; · unfold left; iexact Hc
    iexact Hb
  iexact Hrest

theorem runs_recv {j : Msg} {n r p : ℕ} (hj : pos j = r) (hn : r < n) (p₁ : ((slotS j.1).Idx → Elt F .bf16) → P F) (Q : PUnit → sProp 𝕄) :
    iprop(St m K d n r p ∗ (St m K d n (r + 1) p -∗ runs d (p₁ (mval m j (peer j.1 d))) Q)) ⊢ runs d (recv j p₁) Q := by
  unfold recv runs
  rw [St_receiving m K d hj]
  iintro ⟨⟨#Hr, #Hl, ⟨%W, HO⟩, Hu, Hb, ⟨⟨Hc, Hat⟩, Ha⟩, Hg, Hrest⟩, Hk⟩
  iapply (Rounds.wp_wait_rest_token 𝒱₀ ER (Rd m) (d : Thread nD τ) none (κ := K (d, rcv j)) (sm := csem (rcv j))
      (wpE_waitDma2_eq 𝒱₀ (d : Thread nD τ) none Set.univ) (Set.mem_univ _) () (O := owed d n) (W := W) (R := 0) (m := 0) (T := ∅)
      ((Nat.zero_add _).trans (expect_eq m (d, rcv j)).symm)) $$ [Hc HO Hat]
  · isplitr; · iapply (recs_inv m K (d, rcv j)); iexact Hr
    isplitl [Hc]; · iexact Hc
    isplitl [HO]; · iexact HO
    isplitr
    · iapply (mayWait_owed d (rcv j) n (by show pos j + 2 ≤ n + 1; omega)); iexact Hl
    iexact Hat
  iintro ⟨HO, Hat, -, Hpay⟩
  ihave Hp := (Entails.of_eq (rest_some m d (.inr (.inl j)))) $$ Hpay
  ihave Hp' := (show payK m d (rcv j) false ⊢ iprop(∃ f, ⌜(dstS j).view.read (Elt F) f = mval m j (peer j.1 d)⌝ ∗ pts d (dstS j) f) from .rfl) $$ Hp
  icases Hp' with ⟨%f, %hf, Hs⟩
  imod (Rounds.cell_close ER (Rd m) (Set.mem_univ (K (d, rcv j))) (fun h => h) (R := 0 + 1) (duties_later m (kcell (d, rcv j)))) $$ [Hat] with Hz
  · isplitr; · iapply (recs_inv m K (d, rcv j)); iexact Hr
    iexact Hat
  unfold pts
  iapply (wp_load_rect 𝒱₀ (d : Thread nD τ) none Set.univ (m := rcvM j.1) (r := slotR j) (S := (dstS j).view.set) subset_rfl) $$ Hs
  iintro Hs
  rw [show ((rcvM j.1).access (slotR j)).read (Elt F) f = mval m j (peer j.1 d) from hf]
  iapply Hk
  unfold St
  isplitr; · iexact Hr
  isplitr; · iexact Hl
  isplitl [HO]; · iexists _; iexact HO
  isplitl [Hu]; · iexact Hu
  isplitl [Hb]; · iexact Hb
  isplitl [Ha]; · iexact Ha
  isplitl [Hs Hz Hg]
  · rw [before_push pos_injective hj]
    isplitl [Hs Hz]
    · unfold got anyPts pts
      isplitl [Hs]; · iexists f; iexact Hs
      iexact Hz
    iexact Hg
  iexact Hrest

/-! ### Weights -/

theorem pay_wt (w : Wt) (f : Buf (Elt F) ((wslotM w).view.loc (d : Thread nD τ))) :
    (iprop(((wslotM w).view.loc (d : Thread nD τ) ↦[(wslotM w).view.set]{fullShare}
          ((wslotM w).view.write (Elt F) f ((whbm w).view.read (Elt F) (m ((whbm w).view.loc (d : Thread nD τ)))) Finset.univ))
        ∗ ((whbm w).view.loc (d : Thread nD τ) ↦[(whbm w).view.set]{fullShare} (m ((whbm w).view.loc (d : Thread nD τ))))) : sProp 𝕄)
      ⊢ (Rd m).payload (kcell (d, wt w)) 0 false := by
  rw [payload_eq m (d, wt w)]
  show _ ⊢ iprop(own d (wslotM w) (wval m w d) ∗ pts d (whbm w) (m _))
  have hw : (wslotM w).view.read (Elt F) ((wslotM w).view.write (Elt F) f
      ((whbm w).view.read (Elt F) (m ((whbm w).view.loc (d : Thread nD τ)))) Finset.univ) = wval m w d :=
    View.read_write_univ _ _
  generalize (wslotM w).view.write (Elt F) f ((whbm w).view.read (Elt F) (m ((whbm w).view.loc (d : Thread nD τ)))) Finset.univ = g at hw ⊢
  unfold own pts
  iintro ⟨H, H'⟩
  isplitl [H]
  · iexists g
    isplitr
    · ipureintro; exact hw
    iexact H
  iexact H'

/-- The state of the weights' copies, `i` of them started. -/
def Cp (i : ℕ) : sProp 𝕄 := iprop(recs m K ∗ bigSep (past wp' i) (wfresh m d) ∗ bigSep (before wp' i) (wcopying d))

theorem runs_copyW {w : Wt} {i : ℕ} (hw : wp' w = i) (p₁ : P F) (Q : PUnit → sProp 𝕄) :
    iprop(Cp m K d i ∗ (Cp m K d (i + 1) -∗ runs d p₁ Q)) ⊢ runs d (copyW w p₁) Q := by
  unfold copyW runs
  rw [show Cp m K d i = iprop(recs m K ∗ (((∃ f, pts d (wslotM w) f) ∗ pts d (whbm w) (m _) ∗ dutyTok ER (kcell (d, wt w)) 0 false)
      ∗ bigSep (past wp' (i + 1)) (wfresh m d)) ∗ bigSep (before wp' i) (wcopying d)) from by
    unfold Cp; rw [past_peel wp'_injective hw]; rfl]
  iintro ⟨⟨#Hr, ⟨⟨⟨%f, Hs⟩, Hh, Ht⟩, Hf⟩, Hc⟩, Hk⟩
  unfold pts
  iapply (Rounds.wp_copy_pointsTo 𝒱₀ ER (Rd m) (d : Thread nD τ) none (src := whbm w) (dst := wslotM w) (sem := csem (wt w))
    (fs := m _) (fd := f) (r := 0) (d := false) (κ := K (d, wt w))
    (by rw [duties_eq m (d, wt w)]; exact Finset.mem_singleton_self _) () (wtN w) rfl (amount_eq m (d, wt w) false) (pay_wt m d w f)) $$ [Hs Hh Ht]
  · isplitr; · iapply (recs_inv m K (d, wt w)); iexact Hr
    isplitl [Hh]; · iexact Hh
    isplitl [Hs]; · iexact Hs
    isplitl [Ht]; · iexact Ht
    iapply (recs_reached m K (d, wt w)); iexact Hr
  iintro Hcr
  iapply Hk
  unfold Cp
  isplitr; · iexact Hr
  isplitl [Hf]; · iexact Hf
  rw [before_push wp'_injective hw]
  isplitl [Hcr]; · unfold wcopying; iexact Hcr
  iexact Hc

theorem runs_waitW {w : Wt} {n r p : ℕ} (hw : wp' w = p) (p₁ : P F) (Q : PUnit → sProp 𝕄) :
    iprop(St m K d n r p ∗ (St m K d n r (p + 1) -∗ runs d p₁ Q)) ⊢ runs d (waitW w p₁) Q := by
  unfold waitW runs
  rw [show St m K d n r p = iprop(recs m K ∗ levAts L lv ∗ (∃ W, owes (d : Thread nD τ) (owed d n) W)
      ∗ bigSep (past pos n) (unsent d) ∗ bigSep (before pos n) (left d)
      ∗ bigSep (past pos r) (awaited d) ∗ bigSep (before pos r) (got d)
      ∗ ((cred (tallyAt (kcell (d, wt w)) () (wtN w)) ∗ atPos ER (kcell (d, wt w)) 0 ∅ 0) ∗ bigSep (past wp' (p + 1)) (wawaited d))
      ∗ bigSep (before wp' p) (wheld m d)) from by unfold St; rw [past_peel wp'_injective hw]; rfl]
  iintro ⟨⟨#Hr, #Hl, ⟨%W, HO⟩, Hu, Hb, Ha, Hg, ⟨⟨Hc, Hat⟩, Hw⟩, Hh⟩, Hk⟩
  iapply (Rounds.wp_wait_rest_token 𝒱₀ ER (Rd m) (d : Thread nD τ) none (κ := K (d, wt w)) (sm := csem (wt w))
      (wpE_waitDma2_eq 𝒱₀ (d : Thread nD τ) none Set.univ) (Set.mem_univ _) () (O := owed d n) (W := W) (R := 0) (m := 0) (T := ∅)
      ((Nat.zero_add _).trans (expect_eq m (d, wt w)).symm)) $$ [Hc HO Hat]
  · isplitr; · iapply (recs_inv m K (d, wt w)); iexact Hr
    isplitl [Hc]; · iexact Hc
    isplitl [HO]; · iexact HO
    isplitr
    · iapply (mayWait_owed d (wt w) n (Nat.zero_le _)); iexact Hl
    iexact Hat
  iintro ⟨HO, Hat, -, Hpay⟩
  ihave Hp := (Entails.of_eq (rest_some m d (.inr (.inr w)))) $$ Hpay
  ihave Hp' := (show payK m d (wt w) false ⊢ iprop(own d (wslotM w) (wval m w d) ∗ pts d (whbm w) (m _)) from .rfl) $$ Hp
  icases Hp' with ⟨Hs, Hm⟩
  imod (Rounds.cell_close ER (Rd m) (Set.mem_univ (K (d, wt w))) (fun h => h) (R := 0 + 1) (duties_later m (kcell (d, wt w)))) $$ [Hat] with Hz
  · isplitr; · iapply (recs_inv m K (d, wt w)); iexact Hr
    iexact Hat
  iapply Hk
  unfold St
  isplitr; · iexact Hr
  isplitr; · iexact Hl
  isplitl [HO]; · iexists _; iexact HO
  isplitl [Hu]; · iexact Hu
  isplitl [Hb]; · iexact Hb
  isplitl [Ha]; · iexact Ha
  isplitl [Hg]; · iexact Hg
  isplitl [Hw]; · iexact Hw
  rw [before_push wp'_injective hw]
  isplitl [Hs Hm Hz]
  · unfold wheld
    isplitl [Hs]; · iexact Hs
    isplitl [Hm]; · iexact Hm
    iexact Hz
  iexact Hh

/-- A load of a whole weight reads it. -/
theorem read_wt (w : Wt) (f : Buf (Elt F) ((wslotM w).view.loc (d : Thread nD τ))) :
    (wslotM w).view.readAt (Elt F) (Rect.unit (s := wtS w.1) ![0, 0] (wtS w.1).size (wload_inb w.1)).toLoadRect f
      = (wslotM w).view.read (Elt F) f := by
  funext x
  rw [View.readAt_apply]
  congr 1
  funext a
  refine Fin.ext ?_
  show (![0, 0] : Fin 2 → ℕ) a + 1 * (x a).val = (x a).val
  have h0 : (![0, 0] : Fin 2 → ℕ) a = 0 := by fin_cases a <;> rfl
  rw [h0]; omega

theorem runs_loadW {w : Wt} {n r p : ℕ} (hw : wp' w < p) (p₁ : ((wtS w.1).Idx → Elt F .f32) → P F) (Q : PUnit → sProp 𝕄) :
    iprop(St m K d n r p ∗ (St m K d n r p -∗ runs d (p₁ (wval m w d)) Q)) ⊢ runs d (loadW w p₁) Q := by
  unfold loadW runs
  have hst : St m K d n r p = iprop(recs m K ∗ levAts L lv ∗ (∃ W, owes (d : Thread nD τ) (owed d n) W)
      ∗ bigSep (past pos n) (unsent d) ∗ bigSep (before pos n) (left d)
      ∗ bigSep (past pos r) (awaited d) ∗ bigSep (before pos r) (got d) ∗ bigSep (past wp' p) (wawaited d)
      ∗ ((∃ f, ⌜(wslotM w).view.read (Elt F) f = wval m w d⌝ ∗ pts d (wslotM w) f) ∗ pts d (whbm w) (m _) ∗ semVal (kcell (d, wt w)) 0)
      ∗ bigSep ((before wp' p).erase w) (wheld m d)) := by
    unfold St
    rw [bigSep_erase (s := before wp' p) (i := w) (by simp only [Finset.mem_filter, Finset.mem_univ, true_and]; exact hw)]; rfl
  rw [hst]
  iintro ⟨⟨#Hr, #Hl, HO, Hu, Hb, Ha, Hg, Hw, ⟨⟨%f, %hf, Hs⟩, Hm, Hz⟩, Hh⟩, Hk⟩
  unfold pts
  iapply (wp_load 𝒱₀ (d : Thread nD τ) none Set.univ (m := wslotM w) (S := (wslotM w).view.set) (View.setOn_subset_set _ _)) $$ Hs
  iintro Hs
  rw [read_wt d w f, hf]
  iapply Hk
  isplitr; · iexact Hr
  isplitr; · iexact Hl
  isplitl [HO]; · iexact HO
  isplitl [Hu]; · iexact Hu
  isplitl [Hb]; · iexact Hb
  isplitl [Ha]; · iexact Ha
  isplitl [Hg]; · iexact Hg
  isplitl [Hw]; · iexact Hw
  isplitl [Hs Hm Hz]
  · isplitl [Hs]
    · iexists f
      isplitr
      · ipureintro; exact hf
      iexact Hs
    isplitl [Hm]; · iexact Hm
    iexact Hz
  iexact Hh

/-! ### The activations and the result -/

abbrev xM : Memref sig .tc .vmem S256x256 .f32 := Memref.whole cc0_stg0_0
abbrev oM : Memref sig .tc .vmem S256x256 .f32 := Memref.whole cc0_stg1_0

theorem runs_loadX (c : Fin 4) (p₁ : Vec F S64x256 .f32 → P F) (Q : PUnit → sProp 𝕄) :
    iprop(pts d xM (xstg m d) ∗ (pts d xM (xstg m d) -∗ runs d (p₁ (rowsOf (xstg m d) c)) Q)) ⊢ runs d (loadX xM c p₁) Q := by
  unfold loadX runs pts
  iintro ⟨Hx, Hk⟩
  iapply (wp_load_rect 𝒱₀ (d : Thread nD τ) none Set.univ (m := xM) (r := chunkR c) (S := xM.view.set) (View.set_slice_subset _ _)) $$ Hx
  iintro Hx
  iapply Hk; iexact Hx

theorem chunk_disjoint {c c' : Fin 4} (h : c ≠ c') : Disjoint (chunkR c).set (chunkR c').set := by
  rw [Finset.disjoint_left]
  intro i hi hi'
  rw [← Rect.map_emb_univ, Finset.mem_map] at hi hi'
  obtain ⟨x, -, rfl⟩ := hi
  obtain ⟨y, -, hy⟩ := hi'
  have h0 : 64 * c'.val + 1 * (y 0).val = 64 * c.val + 1 * (x 0).val := congrArg (fun z : S256x256.Idx => (z 0).val) hy
  have hx : (x 0).val < 64 := (x 0).isLt
  have hy' : (y 0).val < 64 := (y 0).isLt
  exact h (Fin.ext (by omega))

section Stored
variable (M : Memref sig .tc .vmem S256x256 .f32)

/-- Writing a chunk of a buffer leaves the other chunks. -/
theorem rows_write_other (f : M.view.ty.Contents (Elt F)) {c c' : Fin 4} (v : (chunkR c).shape.Idx → Elt F .f32) (h : c' ≠ c) :
    (M.view.slice (chunkR c')).read (Elt F) ((M.view.slice (chunkR c)).write (Elt F) f v Finset.univ)
      = (M.view.slice (chunkR c')).read (Elt F) f :=
  View.read_slice_write_slice_of_disjoint (chunkR c') (chunkR c) f v Finset.univ (by
    show Disjoint (M.view.slice (chunkR c')).set (M.view.slice (chunkR c)).set
    rw [View.set_slice, View.set_slice]
    exact (Finset.disjoint_map _).mpr (chunk_disjoint h))

/-- The result's buffer, the chunks before `i` written. -/
def Ou (V : (c : Fin 4) → (chunkR c).shape.Idx → Elt F .f32) (i : ℕ) : sProp 𝕄 :=
  iprop(∃ f, ⌜∀ c : Fin 4, c.val < i → (M.view.slice (chunkR c)).read (Elt F) f = V c⌝ ∗ pts d M f)

theorem runs_storeX (V : (c : Fin 4) → (chunkR c).shape.Idx → Elt F .f32) {c : Fin 4} {i : ℕ} (hc : c.val = i)
    (v : (chunkR c).shape.Idx → Elt F .f32) (hv : v = V c) (p₁ : P F) (Q : PUnit → sProp 𝕄) :
    iprop(Ou d M V i ∗ (Ou d M V (i + 1) -∗ runs d p₁ Q)) ⊢ runs d (storeX M c v p₁) Q := by
  unfold storeX runs
  rw [show Ou d M V i = iprop(∃ f, ⌜∀ c : Fin 4, c.val < i → (M.view.slice (chunkR c)).read (Elt F) f = V c⌝ ∗ pts d M f) from rfl]
  iintro ⟨⟨%f, %hf, Ho⟩, Hk⟩
  unfold pts
  iapply (wp_load_rect 𝒱₀ (d : Thread nD τ) none Set.univ (m := M) (r := chunkR c) (S := M.view.set) (View.set_slice_subset _ _)) $$ Ho
  iintro Ho
  iapply (wp_store 𝒱₀ (d : Thread nD τ) none Set.univ (m := M) (r := chunkR c) (Mk := Finset.univ) (S := M.view.set)
    (View.set_slice_subset _ _)) $$ Ho
  iintro Ho
  iapply Hk
  have hg : ∀ c' : Fin 4, c'.val < i + 1 →
      (M.view.slice (chunkR c')).read (Elt F) ((M.access (chunkR c)).write (Elt F) f v Finset.univ) = V c' := by
    intro c' hc'
    by_cases e : c' = c
    · subst e
      exact (View.read_write_univ (v := M.view.slice (chunkR c')) f v).trans hv
    · exact (rows_write_other M f v e).trans (hf c' (by have : c'.val ≠ c.val := fun h => e (Fin.ext h); omega))
  generalize (M.access (chunkR c)).write (Elt F) f v Finset.univ = g at hg
  unfold Ou pts
  iexists g
  isplitr
  · ipureintro; exact hg
  iexact Ho
end Stored

/-! ### Departures -/

/-- A message's position in the order in which the departures are awaited. -/
def dpos (j : Msg) : ℕ := cond j.1 0 12 + 4 * j.2.1.val + j.2.2.val
theorem dpos_injective : Function.Injective dpos := (by decide +kernel : ∀ a b : Msg, dpos a = dpos b → a = b)
theorem dpos_lt (j : Msg) : dpos j < 24 := by revert j; decide +kernel

/-- A sent message before its departure is awaited, and after. -/
def leaving (j : Msg) : sProp 𝕄 := iprop(left d j ∗ atPos ER (kcell (d, snd j)) 0 ∅ 0)
def gone (j : Msg) : sProp 𝕄 := iprop(anyPts d (srcS j) ∗ semVal (kcell (d, snd j)) 0)

/-- The state when `s` departures are awaited. -/
def Dp (s : ℕ) : sProp 𝕄 :=
  iprop(recs m K ∗ (∃ W, owes (d : Thread nD τ) 0 W) ∗ bigSep (past dpos s) (leaving d) ∗ bigSep (before dpos s) (gone d))

theorem runs_sent {j : Msg} {s : ℕ} (hj : dpos j = s) (p₁ : P F) (Q : PUnit → sProp 𝕄) :
    iprop(Dp m K d s ∗ (Dp m K d (s + 1) -∗ runs d p₁ Q)) ⊢ runs d (sent j p₁) Q := by
  unfold sent runs
  rw [show Dp m K d s = iprop(recs m K ∗ (∃ W, owes (d : Thread nD τ) 0 W)
      ∗ ((cred (tallyAt (kcell (d, snd j)) () (msgN j)) ∗ atPos ER (kcell (d, snd j)) 0 ∅ 0) ∗ bigSep (past dpos (s + 1)) (leaving d))
      ∗ bigSep (before dpos s) (gone d)) from by unfold Dp; rw [past_peel dpos_injective hj]; rfl]
  iintro ⟨⟨#Hr, ⟨%W, HO⟩, ⟨⟨Hc, Hat⟩, Hl⟩, Hg⟩, Hk⟩
  rw [← msgN_src j]
  iapply (Rounds.wp_wait_rest_token 𝒱₀ ER (Rd m) (d : Thread nD τ) none (κ := K (d, snd j)) (sm := csem (snd j))
      (wpE_waitDma2_eq 𝒱₀ (d : Thread nD τ) none Set.univ) (Set.mem_univ _) () (O := 0) (W := W) (R := 0) (m := 0) (T := ∅)
      ((Nat.zero_add _).trans ((msgN_src j).trans (expect_eq m (d, snd j)).symm))) $$ [Hc HO Hat]
  · isplitr; · iapply (recs_inv m K (d, snd j)); iexact Hr
    isplitl [Hc]; · iexact Hc
    isplitl [HO]; · iexact HO
    isplitr; · rw [MayWait_zero]; iempintro
    iexact Hat
  iintro ⟨HO, Hat, -, Hpay⟩
  ihave Hp := (Entails.of_eq (rest_some m d (.inl j))) $$ Hpay
  ihave Hp' := (show payK m d (snd j) false ⊢ anyPts d (srcS j) from .rfl) $$ Hp
  imod (Rounds.cell_close ER (Rd m) (Set.mem_univ (K (d, snd j))) (fun h => h) (R := 0 + 1) (duties_later m (kcell (d, snd j)))) $$ [Hat] with Hz
  · isplitr; · iapply (recs_inv m K (d, snd j)); iexact Hr
    iexact Hat
  iapply Hk
  unfold Dp
  isplitr; · iexact Hr
  isplitl [HO]; · iexists _; iexact HO
  isplitl [Hl]; · iexact Hl
  rw [before_push dpos_injective hj]
  isplitl [Hp' Hz]
  · unfold gone
    isplitl [Hp']; · iexact Hp'
    iexact Hz
  iexact Hg

/-! ### The barrier -/

/-- What a device hands its neighbours: the arrival slots of a kind, -/
abbrev slots (d' : Dev nD) (b : Bool) : sProp 𝕄 := bigSep Finset.univ fun kc : Fin 3 × Fin 4 => anyPts (F := F) d' (dstS (b, kc))

theorem pay_bar (b : Bool) : (Rd (F := F) m).payload (kcell (peer b d, bar)) 0 b = slots d b := by
  rw [payload_eq m (peer b d, bar)]
  show (bigSep Finset.univ fun kc : Fin 3 × Fin 4 => anyPts (F := F) (peer b (peer b d)) (dstS (b, kc))) = _
  rw [peer_peer]

theorem bar_duty (b : Bool) : b ∈ (Rd (F := F) m).duties (kcell (peer b d, bar)) 0 := by
  rw [duties_eq m (peer b d, bar)]; exact Finset.mem_univ _

theorem bar_rest : (bigSep ((Rd (F := F) m).duties (kcell (d, bar)) 0 \ ∅) fun b => (Rd m).payload (kcell (d, bar)) 0 b)
    = iprop(slots (peer true d) true ∗ slots (peer false d) false) := by
  rw [rest_bar m d, bigSep_univ_eq_bigSepL [true, false] (by decide) (by decide), bigSepL_cons_cons, bigSepL_singleton]
  rfl

theorem runs_bar (p₁ : P F) (Q : PUnit → sProp 𝕄) :
    iprop((recs m K ∗ levAts L lv ∗ (∃ W, owes (d : Thread nD τ) (O₀ d) W) ∗ slots d true ∗ slots d false
        ∗ dutyTok ER (kcell (peer true d, bar)) 0 true ∗ dutyTok ER (kcell (peer false d, bar)) 0 false
        ∗ cred (tallyAt (kcell (d, bar)) () 2) ∗ atPos ER (kcell (d, bar)) 0 ∅ 0)
      ∗ (((∃ W, owes (d : Thread nD τ) (owed d 0) W) ∗ slots (peer true d) true ∗ slots (peer false d) false
          ∗ semVal (kcell (d, bar)) 0) -∗ runs d p₁ Q))
      ⊢ runs d (Prog.bind (semSignalWord (rowD d) barS 1#32) fun _ =>
          Prog.bind (semSignalWord (colD d) barS 1#32) fun _ => Prog.bind (semWaitWord barS 2#32) fun _ => p₁) Q := by
  unfold runs
  simp only [semSignalWord, semWaitWord, Prog.lift, Prog.bind_op, Prog.bind_ret]
  iintro ⟨⟨#Hr, #Hl, ⟨%W, HO⟩, Hs, Hs', Ht, Ht', Hc, Hat⟩, Hk⟩
  iapply (Rounds.wp_signal 𝒱₀ ER (Rd m) (d : Thread nD τ) none (dst := (peer true d : Thread nD τ)) (sem := barS) (κ := K (peer true d, bar)) (r := 0) (d := true)
      (bar_duty m d true) (amount_eq m (peer true d, bar) true) () (O₁ d) rfl) $$ [HO Hs Ht]
  · isplitr; · iapply (recs_inv m K (peer true d, bar)); iexact Hr
    isplitl [HO]; · iexact HO
    isplitl [Ht]; · iexact Ht
    isplitl [Hs]
    · rw [show (Rd (F := F) m).payload ((peer true d : Thread nD τ), SemLoc.reg barS) 0 true = slots d true from pay_bar m d true]; iexact Hs
    iapply (recs_reached m K (peer true d, bar)); iexact Hr
  iintro HO
  iapply (Rounds.wp_signal 𝒱₀ ER (Rd m) (d : Thread nD τ) none (dst := (peer false d : Thread nD τ)) (sem := barS) (κ := K (peer false d, bar)) (r := 0) (d := false)
      (bar_duty m d false) (amount_eq m (peer false d, bar) false) () (owed d 0) rfl) $$ [HO Hs' Ht']
  · isplitr; · iapply (recs_inv m K (peer false d, bar)); iexact Hr
    isplitl [HO]; · iexact HO
    isplitl [Ht']; · iexact Ht'
    isplitl [Hs']
    · rw [show (Rd (F := F) m).payload ((peer false d : Thread nD τ), SemLoc.reg barS) 0 false = slots d false from pay_bar m d false]; iexact Hs'
    iapply (recs_reached m K (peer false d, bar)); iexact Hr
  iintro HO
  iapply (Rounds.wp_wait_rest_token 𝒱₀ ER (Rd m) (d : Thread nD τ) none (κ := K (d, bar)) (sm := csem bar)
      (wpE_semWait_eq 𝒱₀ (d : Thread nD τ) none Set.univ) (Set.mem_univ _) () (O := owed d 0) (W := W) (R := 0) (m := 0) (T := ∅)
      ((Nat.zero_add _).trans (expect_eq m (d, bar)).symm)) $$ [Hc HO Hat]
  · isplitr; · iapply (recs_inv m K (d, bar)); iexact Hr
    isplitl [Hc]; · iexact Hc
    isplitl [HO]; · iexact HO
    isplitr
    · iapply (mayWait_owed d bar 0 le_rfl); iexact Hl
    iexact Hat
  iintro ⟨HO, Hat, -, Hpay⟩
  ihave Hp := (Entails.of_eq (bar_rest m d)) $$ Hpay
  icases Hp with ⟨Hs, Hs'⟩
  imod (Rounds.cell_close ER (Rd m) (Set.mem_univ (K (d, bar))) (fun h => h) (R := 0 + 1) (duties_later m (kcell (d, bar)))) $$ [Hat] with Hz
  · isplitr; · iapply (recs_inv m K (d, bar)); iexact Hr
    iexact Hat
  iapply Hk
  isplitl [HO]; · iexists _; iexact HO
  isplitl [Hs]; · iexact Hs
  isplitl [Hs']; · iexact Hs'
  iexact Hz

end Cert.Mlp

end
-- ==== Proof.Phases.lean ====
module
public import proofs.«01_k».proof.Proof.Steps

/-! The body's phases at any layer: a send with its product, a layer's two halves. -/

@[expose] public section

set_option synthInstance.maxSize 4096

noncomputable section

namespace Cert.Mlp

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

variable (m : (ℓ : Loc nD τ sig) → Buf (Elt F) ℓ) (K : Dev nD × CK → ℕ) (d : Dev nD)

/-- The input of layer `k` on device `d`, chunk `c`; -/
abbrev A (k : ℕ) (c : Fin 4) : Act F := act (xstg m) (wval m) k d c
/-- a layer's partial hidden block, and its partial output block. -/
abbrev H (k : Fin 3) (c : Fin 4) : Hid F := hidP (wval m) (act (xstg m) (wval m) k.val) k d c
abbrev O (k : Fin 3) (c : Fin 4) : Act F := outP (wval m) (act (xstg m) (wval m) k.val) k d c

/-- A partial hidden block leaves for the device beside. -/
theorem runs_sendH {k : Fin 3} {c : Fin 4} {n r p : ℕ} (hj : pos (true, k, c) = n) (hw : wp' (true, k) < p)
    (x : Act F) (hx : x = A m d k.val c) (p₁ : Hid F → P F) (Q : PUnit → sProp 𝕄) :
    iprop(St m K d n r p ∗ (St m K d (n + 1) r p -∗ runs d (p₁ (H m d k c)) Q)) ⊢ runs d (sendH d k c x p₁) Q := by
  unfold sendH
  subst hx
  iintro ⟨Hs, Hk⟩
  iapply (runs_loadW m K d (w := (true, k)) hw)
  isplitl [Hs]; · iexact Hs
  iintro Hs
  iapply (runs_send m K d (j := (true, k, c)) hj (slotH (H m d k c)) rfl)
  isplitl [Hs]; · iexact Hs
  iexact Hk

/-- A partial output block leaves for the device in the column. -/
theorem runs_sendO {k : Fin 3} {c : Fin 4} {n r p : ℕ} (hj : pos (false, k, c) = n) (hw : wp' (false, k) < p)
    (h : Hid F) (hh : h = hid (wval m) (act (xstg m) (wval m) k.val) k d c) (p₁ : Act F → P F) (Q : PUnit → sProp 𝕄) :
    iprop(St m K d n r p ∗ (St m K d (n + 1) r p -∗ runs d (p₁ (O m d k c)) Q)) ⊢ runs d (sendO d k c h p₁) Q := by
  unfold sendO
  subst hh
  iintro ⟨Hs, Hk⟩
  iapply (runs_loadW m K d (w := (false, k)) hw)
  isplitl [Hs]; · iexact Hs
  iintro Hs
  iapply (runs_send m K d (j := (false, k, c)) hj (slotO (O m d k c)) rfl)
  isplitl [Hs]; · iexact Hs
  iexact Hk

theorem pos_true (k : Fin 3) (c : Fin 4) : pos (true, k, c) = 8 * k.val + c.val := rfl
theorem pos_false (k : Fin 3) (c : Fin 4) : pos (false, k, c) = 8 * k.val + 4 + c.val := rfl

/-- A chunk's hidden parts meet and its output part leaves. -/
theorem runs_turnH {k : Fin 3} {c : Fin 4} {n r p : ℕ} (hr : r = 8 * k.val + c.val) (hn : n = 8 * k.val + 4 + c.val)
    (hw : wp' (false, k) < p) (p₁ : Act F → P F) (Q : PUnit → sProp 𝕄) :
    iprop(St m K d n r p ∗ (St m K d (n + 1) (r + 1) p -∗ runs d (p₁ (O m d k c)) Q))
      ⊢ runs d (recv (true, k, c) fun a => sendO d k c (actH (H m d k c) a) p₁) Q := by
  iintro ⟨Hs, Hk⟩
  iapply (runs_recv m K d (j := (true, k, c)) (n := n) ((pos_true k c).trans hr.symm) (by omega))
  isplitl [Hs]; · iexact Hs
  iintro Hs
  iapply (runs_sendO m K d ((pos_false k c).trans hn.symm) hw _ rfl)
  isplitl [Hs]; · iexact Hs
  iexact Hk

/-- A chunk's output parts meet and the next layer's hidden part leaves. -/
theorem runs_turnO {k k' : Fin 3} (hk : k'.val = k.val + 1) {c : Fin 4} {n r p : ℕ} (hr : r = 8 * k.val + 4 + c.val)
    (hn : n = 8 * k.val + 8 + c.val) (hw : wp' (true, k') < p) (p₁ : Hid F → P F) (Q : PUnit → sProp 𝕄) :
    iprop(St m K d n r p ∗ (St m K d (n + 1) (r + 1) p -∗ runs d (p₁ (H m d k' c)) Q))
      ⊢ runs d (recv (false, k, c) fun a => sendH d k' c (sumO (O m d k c) a) p₁) Q := by
  iintro ⟨Hs, Hk⟩
  iapply (runs_recv m K d (j := (false, k, c)) (n := n) ((pos_false k c).trans hr.symm) (by omega))
  isplitl [Hs]; · iexact Hs
  iintro Hs
  iapply (runs_sendH m K d (n := n) ((pos_true k' c).trans (by omega)) hw _ (act_succ (xstg m) (wval m) k k' hk d c).symm)
  isplitl [Hs]; · iexact Hs
  iexact Hk

/-- A layer's first half. -/
theorem runs_halfH (k : Fin 3) (p₁ : Act F → Act F → Act F → Act F → P F) (Q : PUnit → sProp 𝕄) :
    iprop(St m K d (8 * k.val + 4) (8 * k.val) (2 * k.val + 1)
        ∗ (St m K d (8 * k.val + 8) (8 * k.val + 4) (2 * k.val + 2)
          -∗ runs d (p₁ (O m d k 0) (O m d k 1) (O m d k 2) (O m d k 3)) Q))
      ⊢ runs d (halfH d k (H m d k 0) (H m d k 1) (H m d k 2) (H m d k 3) p₁) Q := by
  unfold halfH
  iintro ⟨Hs, Hk⟩
  iapply (runs_recv m K d (j := (true, k, 0)) (n := 8 * k.val + 4) (pos_true k 0) (by omega))
  isplitl [Hs]; · iexact Hs
  iintro Hs
  iapply (runs_waitW m K d (w := (false, k)) rfl)
  isplitl [Hs]; · iexact Hs
  iintro Hs
  iapply (runs_sendO m K d (k := k) (c := 0) (pos_false k 0) (Nat.lt_succ_self _) _ rfl)
  isplitl [Hs]; · iexact Hs
  iintro Hs
  iapply (runs_turnH m K d (k := k) (c := 1) (n := 8 * k.val + 4 + 1) (r := 8 * k.val + 1) (p := 2 * k.val + 2) rfl rfl (Nat.lt_succ_self _))
  isplitl [Hs]; · iexact Hs
  iintro Hs
  iapply (runs_turnH m K d (k := k) (c := 2) (n := 8 * k.val + 4 + 2) (r := 8 * k.val + 2) (p := 2 * k.val + 2) rfl rfl (Nat.lt_succ_self _))
  isplitl [Hs]; · iexact Hs
  iintro Hs
  iapply (runs_turnH m K d (k := k) (c := 3) (n := 8 * k.val + 4 + 3) (r := 8 * k.val + 3) (p := 2 * k.val + 2) rfl rfl (Nat.lt_succ_self _))
  isplitl [Hs]; · iexact Hs
  iexact Hk

/-- A layer's second half, before the layer `k'`. -/
theorem runs_halfO (k k' : Fin 3) (hk : k'.val = k.val + 1) (p₁ : Hid F → Hid F → Hid F → Hid F → P F) (Q : PUnit → sProp 𝕄) :
    iprop(St m K d (8 * k.val + 8) (8 * k.val + 4) (2 * k.val + 2)
        ∗ (St m K d (8 * k.val + 12) (8 * k.val + 8) (2 * k.val + 3)
          -∗ runs d (p₁ (H m d k' 0) (H m d k' 1) (H m d k' 2) (H m d k' 3)) Q))
      ⊢ runs d (halfO d k k' (O m d k 0) (O m d k 1) (O m d k 2) (O m d k 3) p₁) Q := by
  unfold halfO
  have hw : wp' (true, k') = 2 * k.val + 2 := by
    show 2 * k'.val + 0 = _
    omega
  have hw' : wp' (true, k') < 2 * k.val + 3 := by omega
  iintro ⟨Hs, Hk⟩
  iapply (runs_recv m K d (j := (false, k, 0)) (n := 8 * k.val + 8) (pos_false k 0) (by omega))
  isplitl [Hs]; · iexact Hs
  iintro Hs
  iapply (runs_waitW m K d (w := (true, k')) hw)
  isplitl [Hs]; · iexact Hs
  iintro Hs
  iapply (runs_sendH m K d (k := k') (c := 0) (n := 8 * k.val + 8) ((pos_true k' 0).trans (show _ = 8 * k.val + 8 by show 8 * k'.val + 0 = _; omega)) hw' _
    (act_succ (xstg m) (wval m) k k' hk d 0).symm)
  isplitl [Hs]; · iexact Hs
  iintro Hs
  iapply (runs_turnO m K d hk (c := 1) (n := 8 * k.val + 8 + 1) (r := 8 * k.val + 4 + 1) (p := 2 * k.val + 3) rfl rfl hw')
  isplitl [Hs]; · iexact Hs
  iintro Hs
  iapply (runs_turnO m K d hk (c := 2) (n := 8 * k.val + 8 + 2) (r := 8 * k.val + 4 + 2) (p := 2 * k.val + 3) rfl rfl hw')
  isplitl [Hs]; · iexact Hs
  iintro Hs
  iapply (runs_turnO m K d hk (c := 3) (n := 8 * k.val + 8 + 3) (r := 8 * k.val + 4 + 3) (p := 2 * k.val + 3) rfl rfl hw')
  isplitl [Hs]; · iexact Hs
  iexact Hk

end Cert.Mlp

end
-- ==== Proof.Body.lean ====
/-
  The body of the kernel on a device: from what the launch hands it to its result.
-/
module

public import proofs.«01_k».proof.Proof.Phases

@[expose] public section

set_option synthInstance.maxSize 4096

noncomputable section

namespace Cert.Mlp

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

variable (m : (ℓ : Loc nD τ sig) → Buf (Elt F) ℓ) (K : Dev nD × CK → ℕ) (d : Dev nD)

/-! ### Families over the messages, the weights and the cells -/

/-- A family over every message, -/
abbrev onMsgs (Φ : Msg → sProp 𝕄) : sProp 𝕄 := bigSep Finset.univ Φ
/-- and over every weight. -/
abbrev onWts (Φ : Wt → sProp 𝕄) : sProp 𝕄 := bigSep Finset.univ Φ

/-- Over the cells: the barrier's, then the departures', the arrivals' and the weights'. -/
theorem bigSep_cells (Φ : CK → sProp 𝕄) :
    bigSep Finset.univ Φ = iprop(Φ bar ∗ onMsgs (fun j => Φ (snd j)) ∗ onMsgs (fun j => Φ (rcv j)) ∗ onWts (fun w => Φ (wt w))) := by
  have h : (Finset.univ : Finset CK).erase none = Finset.univ.map Function.Embedding.some := by
    ext x; rcases x with _ | x <;> simp
  rw [bigSep_univ_at Φ none, h, bigSep_map]
  show iprop(_ ∗ bigSep Finset.univ (fun x : Msg ⊕ Msg ⊕ Wt => Φ (some x))) = _
  rw [bigSep_univ_sum, bigSep_univ_sum]
  rfl

/-- Over the two kinds of messages. -/
theorem bigSep_kinds (Φ : Msg → sProp 𝕄) :
    onMsgs Φ = iprop((bigSep Finset.univ fun kc : Fin 3 × Fin 4 => Φ (true, kc)) ∗ bigSep Finset.univ fun kc : Fin 3 × Fin 4 => Φ (false, kc)) := by
  unfold onMsgs
  rw [bigSep_univ_prod, bigSep_univ_eq_bigSepL [true, false] (by decide) (by decide), bigSepL_cons_cons, bigSepL_singleton]
  rfl

/-! ### Before and after -/

/-- What the launch deals a device of the protocol. -/
def ghost : sProp 𝕄 :=
  iprop(recs m K
    ∗ (dutyTok ER (kcell (peer true d, bar)) 0 true ∗ dutyTok ER (kcell (peer false d, bar)) 0 false)
    ∗ onMsgs (fun j => iprop(dutyTok ER (kcell (d, snd j)) 0 false ∗ dutyTok ER (kcell (peer j.1 d, rcv j)) 0 false))
    ∗ onWts (fun w => dutyTok ER (kcell (d, wt w)) 0 false)
    ∗ bigSep Finset.univ fun k : CK => atPos ER (kcell (d, k)) 0 ∅ 0)

/-- The communication buffers and the weights' buffers, slot by slot, at any contents. -/
def slotsAny : sProp 𝕄 :=
  iprop(onMsgs (fun j => anyPts (F := F) d (srcS j)) ∗ onMsgs (fun j => anyPts (F := F) d (dstS j)) ∗ onWts (fun w => anyPts (F := F) d (wslotM w)))

/-- The weights' arrays at their contents. -/
def weights : sProp 𝕄 := onWts fun w => pts d (whbm w) (m _)

/-- What a device starts from, -/
def bodyIn : sProp 𝕄 :=
  iprop(ghost m K d ∗ levAts L lv ∗ cred (tallyAt (kcell (d, bar)) () 2)
    ∗ onMsgs (fun j => cred (tallyAt (kcell (d, rcv j)) () (msgN j))) ∗ weights m d ∗ slotsAny d
    ∗ (∃ W, owes (d : Thread nD τ) (O₀ d) W) ∗ pts d xM (xstg m d) ∗ (∃ f, pts (F := F) d oM f))
/-- and what it ends with: every semaphore at zero, its result's buffer read as its result. -/
def bodyOut : sProp 𝕄 :=
  iprop((bigSep Finset.univ fun k : CK => semVal (kcell (d, k)) 0) ∗ weights m d ∗ slotsAny d
    ∗ (∃ W, owes (d : Thread nD τ) 0 W) ∗ pts d xM (xstg m d)
    ∗ (∃ f, ⌜∀ c : Fin 4, (oM.view.slice (chunkR c)).read (Elt F) f = outChunk (A m d 3 c)⌝ ∗ pts d oM f))

/-! ### The six copies, the barrier and the first layer's input -/

theorem runs_copies (p₁ : P F) (Q : PUnit → sProp 𝕄) :
    iprop(Cp m K d 0 ∗ (Cp m K d 6 -∗ runs d p₁ Q))
      ⊢ runs d (copyW (true, 0) <| copyW (false, 0) <| copyW (true, 1) <| copyW (false, 1) <| copyW (true, 2) <| copyW (false, 2) p₁) Q := by
  iintro ⟨Hs, Hk⟩
  iapply (runs_copyW m K d (w := (true, 0)) (i := 0) rfl); isplitl [Hs]; · iexact Hs
  iintro Hs
  iapply (runs_copyW m K d (w := (false, 0)) (i := 1) rfl); isplitl [Hs]; · iexact Hs
  iintro Hs
  iapply (runs_copyW m K d (w := (true, 1)) (i := 2) rfl); isplitl [Hs]; · iexact Hs
  iintro Hs
  iapply (runs_copyW m K d (w := (false, 1)) (i := 3) rfl); isplitl [Hs]; · iexact Hs
  iintro Hs
  iapply (runs_copyW m K d (w := (true, 2)) (i := 4) rfl); isplitl [Hs]; · iexact Hs
  iintro Hs
  iapply (runs_copyW m K d (w := (false, 2)) (i := 5) rfl); isplitl [Hs]; · iexact Hs
  iexact Hk

/-- The messages of the first layer leave. -/
theorem runs_first (p₁ : Hid F → Hid F → Hid F → Hid F → P F) (Q : PUnit → sProp 𝕄) :
    iprop(St m K d 0 0 1 ∗ (St m K d 4 0 1 -∗ runs d (p₁ (H m d 0 0) (H m d 0 1) (H m d 0 2) (H m d 0 3)) Q))
      ⊢ runs d (sendH d 0 0 (A m d 0 0) fun p0 => sendH d 0 1 (A m d 0 1) fun p1 =>
          sendH d 0 2 (A m d 0 2) fun p2 => sendH d 0 3 (A m d 0 3) fun p3 => p₁ p0 p1 p2 p3) Q := by
  iintro ⟨Hs, Hk⟩
  iapply (runs_sendH m K d (k := 0) (c := 0) (n := 0) rfl (Nat.lt_succ_self 0) (A m d 0 0) rfl); isplitl [Hs]; · iexact Hs
  iintro Hs
  iapply (runs_sendH m K d (k := 0) (c := 1) (n := 1) rfl (Nat.lt_succ_self 0) (A m d 0 1) rfl); isplitl [Hs]; · iexact Hs
  iintro Hs
  iapply (runs_sendH m K d (k := 0) (c := 2) (n := 2) rfl (Nat.lt_succ_self 0) (A m d 0 2) rfl); isplitl [Hs]; · iexact Hs
  iintro Hs
  iapply (runs_sendH m K d (k := 0) (c := 3) (n := 3) rfl (Nat.lt_succ_self 0) (A m d 0 3) rfl); isplitl [Hs]; · iexact Hs
  iexact Hk

/-- The last layer's output parts meet and are stored. -/
theorem runs_last (p₁ : P F) (Q : PUnit → sProp 𝕄) :
    iprop(St m K d 24 20 6 ∗ Ou d oM (fun c => outChunk (A m d 3 c)) 0
        ∗ ((St m K d 24 24 6 ∗ Ou d oM (fun c => outChunk (A m d 3 c)) 4) -∗ runs d p₁ Q))
      ⊢ runs d (recv (false, 2, 0) fun r0 => recv (false, 2, 1) fun r1 => recv (false, 2, 2) fun r2 => recv (false, 2, 3) fun r3 =>
          storeX oM 0 (outChunk (sumO (O m d 2 0) r0)) <| storeX oM 1 (outChunk (sumO (O m d 2 1) r1)) <|
          storeX oM 2 (outChunk (sumO (O m d 2 2) r2)) <| storeX oM 3 (outChunk (sumO (O m d 2 3) r3)) p₁) Q := by
  iintro ⟨Hs, Ho, Hk⟩
  iapply (runs_recv m K d (j := (false, 2, 0)) (n := 24) (r := 20) rfl (by decide)); isplitl [Hs]; · iexact Hs
  iintro Hs
  iapply (runs_recv m K d (j := (false, 2, 1)) (n := 24) (r := 21) rfl (by decide)); isplitl [Hs]; · iexact Hs
  iintro Hs
  iapply (runs_recv m K d (j := (false, 2, 2)) (n := 24) (r := 22) rfl (by decide)); isplitl [Hs]; · iexact Hs
  iintro Hs
  iapply (runs_recv m K d (j := (false, 2, 3)) (n := 24) (r := 23) rfl (by decide)); isplitl [Hs]; · iexact Hs
  iintro Hs
  iapply (runs_storeX d oM (fun c => outChunk (A m d 3 c)) (c := 0) (i := 0) rfl _ rfl); isplitl [Ho]; · iexact Ho
  iintro Ho
  iapply (runs_storeX d oM (fun c => outChunk (A m d 3 c)) (c := 1) (i := 1) rfl _ rfl); isplitl [Ho]; · iexact Ho
  iintro Ho
  iapply (runs_storeX d oM (fun c => outChunk (A m d 3 c)) (c := 2) (i := 2) rfl _ rfl); isplitl [Ho]; · iexact Ho
  iintro Ho
  iapply (runs_storeX d oM (fun c => outChunk (A m d 3 c)) (c := 3) (i := 3) rfl _ rfl); isplitl [Ho]; · iexact Ho
  iintro Ho
  iapply Hk
  isplitl [Hs]; · iexact Hs
  iexact Ho

/-- The departures of a kind and layer are awaited. -/
theorem runs_sents (b : Bool) (k : Fin 3) (s : ℕ) (hs : cond b 0 12 + 4 * k.val = s) (p₁ : P F) (Q : PUnit → sProp 𝕄) :
    iprop(Dp m K d s ∗ (Dp m K d (s + 4) -∗ runs d p₁ Q)) ⊢ runs d (sents b k p₁) Q := by
  unfold sents
  subst hs
  iintro ⟨Hs, Hk⟩
  iapply (runs_sent m K d (j := (b, k, 0)) rfl); isplitl [Hs]; · iexact Hs
  iintro Hs
  iapply (runs_sent m K d (j := (b, k, 1)) rfl); isplitl [Hs]; · iexact Hs
  iintro Hs
  iapply (runs_sent m K d (j := (b, k, 2)) rfl); isplitl [Hs]; · iexact Hs
  iintro Hs
  iapply (runs_sent m K d (j := (b, k, 3)) rfl); isplitl [Hs]; · iexact Hs
  iexact Hk

theorem runs_departures (p₁ : P F) (Q : PUnit → sProp 𝕄) :
    iprop(Dp m K d 0 ∗ (Dp m K d 24 -∗ runs d p₁ Q))
      ⊢ runs d (sents true 0 <| sents true 1 <| sents true 2 <| sents false 0 <| sents false 1 <| sents false 2 p₁) Q := by
  iintro ⟨Hs, Hk⟩
  iapply (runs_sents m K d true 0 0 rfl); isplitl [Hs]; · iexact Hs
  iintro Hs
  iapply (runs_sents m K d true 1 4 rfl); isplitl [Hs]; · iexact Hs
  iintro Hs
  iapply (runs_sents m K d true 2 8 rfl); isplitl [Hs]; · iexact Hs
  iintro Hs
  iapply (runs_sents m K d false 0 12 rfl); isplitl [Hs]; · iexact Hs
  iintro Hs
  iapply (runs_sents m K d false 1 16 rfl); isplitl [Hs]; · iexact Hs
  iintro Hs
  iapply (runs_sents m K d false 2 20 rfl); isplitl [Hs]; · iexact Hs
  iexact Hk

/-! ### The states, from one part of the body to the next -/

theorem Cp_start : iprop(recs m K ∗ weights m d ∗ onWts (fun w => anyPts (F := F) d (wslotM w)) ∗ onWts (fun w => dutyTok ER (kcell (d, wt w)) 0 false))
    ⊢ Cp m K d 0 := by
  unfold Cp weights onWts
  rw [past_zero, before_zero, bigSep_empty]
  rw [show (bigSep Finset.univ (wfresh m d) : sProp 𝕄) = bigSep Finset.univ fun w => iprop(anyPts (F := F) d (wslotM w)
      ∗ pts d (whbm w) (m _) ∗ dutyTok ER (kcell (d, wt w)) 0 false) from rfl, bigSep_sep', bigSep_sep']
  iintro ⟨Hr, Hh, Hs, Ht⟩
  isplitl [Hr]; · iexact Hr
  isplitl [Hh Hs Ht]
  · isplitl [Hs]; · iexact Hs
    isplitl [Hh]; · iexact Hh
    iexact Ht
  iempintro

theorem Cp_end : Cp m K d 6 ⊢ onWts (wcopying d) := by
  unfold Cp onWts
  rw [before_top wp'_lt]
  iintro ⟨-, -, H⟩
  iexact H

theorem St_start : iprop(recs m K ∗ levAts L lv ∗ (∃ W, owes (d : Thread nD τ) (owed d 0) W)
      ∗ onMsgs (fun j => anyPts (F := F) d (srcS j)) ∗ slots (peer true d) true ∗ slots (peer false d) false
      ∗ onMsgs (fun j => iprop(dutyTok ER (kcell (d, snd j)) 0 false ∗ dutyTok ER (kcell (peer j.1 d, rcv j)) 0 false))
      ∗ onMsgs (fun j => cred (tallyAt (kcell (d, rcv j)) () (msgN j))) ∗ onMsgs (fun j => atPos ER (kcell (d, rcv j)) 0 ∅ 0)
      ∗ onWts (wcopying d) ∗ onWts (fun w => atPos ER (kcell (d, wt w)) 0 ∅ 0))
    ⊢ St m K d 0 0 0 := by
  unfold St
  rw [past_zero, past_zero, before_zero, before_zero, bigSep_empty, bigSep_empty, bigSep_empty]
  rw [show (bigSep Finset.univ (unsent d) : sProp 𝕄) = bigSep Finset.univ fun j : Msg => iprop(anyPts (F := F) d (srcS j)
      ∗ anyPts (F := F) (peer j.1 d) (dstS j)
      ∗ (dutyTok ER (kcell (d, snd j)) 0 false ∗ dutyTok ER (kcell (peer j.1 d, rcv j)) 0 false)) from rfl, bigSep_sep',
    bigSep_sep' _ (fun j : Msg => anyPts (F := F) (peer j.1 d) (dstS j)),
    show (bigSep Finset.univ (awaited d) : sProp 𝕄) = bigSep Finset.univ fun j : Msg =>
      iprop(cred (tallyAt (kcell (d, rcv j)) () (msgN j)) ∗ atPos ER (kcell (d, rcv j)) 0 ∅ 0) from rfl,
    bigSep_sep' _ (fun j : Msg => cred (tallyAt (kcell (d, rcv j)) () (msgN j))),
    show (bigSep Finset.univ (wawaited d) : sProp 𝕄) = bigSep Finset.univ fun w : Wt =>
      iprop(wcopying d w ∗ atPos ER (kcell (d, wt w)) 0 ∅ 0) from rfl, bigSep_sep' _ (wcopying d),
    show (bigSep Finset.univ fun j : Msg => anyPts (F := F) (peer j.1 d) (dstS j))
      = iprop(slots (peer true d) true ∗ slots (peer false d) false) from bigSep_kinds _]
  iintro ⟨Hr, Hl, HO, Hs, H1, H2, Ht, Hc, Ha, Hw, Hwa⟩
  isplitl [Hr]; · iexact Hr
  isplitl [Hl]; · iexact Hl
  isplitl [HO]; · iexact HO
  isplitl [Hs H1 H2 Ht]
  · isplitl [Hs]; · iexact Hs
    isplitl [H1 H2]
    · isplitl [H1]; · iexact H1
      iexact H2
    iexact Ht
  isplitr; · iempintro
  isplitl [Hc Ha]
  · isplitl [Hc]; · iexact Hc
    iexact Ha
  isplitr; · iempintro
  isplitl [Hw Hwa]
  · isplitl [Hw]; · iexact Hw
    iexact Hwa
  iempintro

theorem own_any {sp : Space} {s : Shape} {e : EltTy} (M : Memref sig .tc sp s e) (X : s.Idx → Elt F e) : own d M X ⊢ anyPts (F := F) d M := by
  unfold own anyPts
  iintro ⟨%f, -, H⟩
  iexists f; iexact H

theorem St_end : St m K d 24 24 6 ⊢ iprop(recs m K ∗ (∃ W, owes (d : Thread nD τ) 0 W) ∗ onMsgs (left d)
      ∗ onMsgs (fun j => anyPts (F := F) d (dstS j)) ∗ onMsgs (fun j => semVal (kcell (d, rcv j)) 0)
      ∗ onWts (fun w => anyPts (F := F) d (wslotM w)) ∗ weights m d ∗ onWts (fun w => semVal (kcell (d, wt w)) 0)) := by
  unfold St weights onWts
  rw [before_top pos_lt, before_top wp'_lt, owed_top,
    show (bigSep Finset.univ (got d) : sProp 𝕄) = bigSep Finset.univ fun j : Msg => iprop(anyPts (F := F) d (dstS j) ∗ semVal (kcell (d, rcv j)) 0) from rfl,
    bigSep_sep',
    show (bigSep Finset.univ (wheld m d) : sProp 𝕄) = bigSep Finset.univ fun w : Wt =>
      iprop(own d (wslotM w) (wval m w d) ∗ pts d (whbm w) (m _) ∗ semVal (kcell (d, wt w)) 0) from rfl, bigSep_sep', bigSep_sep']
  iintro ⟨Hr, -, HO, -, Hl, -, ⟨Hg, Hz⟩, -, Hw, Hh, Hwz⟩
  isplitl [Hr]; · iexact Hr
  isplitl [HO]; · iexact HO
  isplitl [Hl]; · iexact Hl
  isplitl [Hg]; · iexact Hg
  isplitl [Hz]; · iexact Hz
  isplitl [Hw]
  · iapply (show (bigSep Finset.univ fun w : Wt => own d (wslotM w) (wval m w d)) ⊢ bigSep Finset.univ fun w : Wt => anyPts (F := F) d (wslotM w) from
      bigSep_mono fun w _ => own_any d (wslotM w) (wval m w d))
    iexact Hw
  isplitl [Hh]; · iexact Hh
  iexact Hwz

theorem Dp_start : iprop(recs m K ∗ (∃ W, owes (d : Thread nD τ) 0 W) ∗ onMsgs (left d) ∗ onMsgs (fun j => atPos ER (kcell (d, snd j)) 0 ∅ 0))
    ⊢ Dp m K d 0 := by
  unfold Dp
  rw [past_zero, before_zero, bigSep_empty, show (bigSep Finset.univ (leaving d) : sProp 𝕄) = bigSep Finset.univ fun j : Msg =>
    iprop(left d j ∗ atPos ER (kcell (d, snd j)) 0 ∅ 0) from rfl, bigSep_sep']
  iintro ⟨Hr, HO, Hl, Ha⟩
  isplitl [Hr]; · iexact Hr
  isplitl [HO]; · iexact HO
  isplitl [Hl Ha]
  · isplitl [Hl]; · iexact Hl
    iexact Ha
  iempintro

theorem Dp_end : Dp m K d 24 ⊢ iprop((∃ W, owes (d : Thread nD τ) 0 W) ∗ onMsgs (fun j => anyPts (F := F) d (srcS j))
    ∗ onMsgs (fun j => semVal (kcell (d, snd j)) 0)) := by
  unfold Dp
  rw [before_top dpos_lt, show (bigSep Finset.univ (gone d) : sProp 𝕄) = bigSep Finset.univ fun j : Msg =>
    iprop(anyPts (F := F) d (srcS j) ∗ semVal (kcell (d, snd j)) 0) from rfl, bigSep_sep']
  iintro ⟨-, HO, -, Hs, Hz⟩
  isplitl [HO]; · iexact HO
  isplitl [Hs]; · iexact Hs
  iexact Hz

/-! ### The body -/

/-- The body, from what a device starts from, ends with its result. -/
theorem runs_body (Q : PUnit → sProp 𝕄) : iprop(bodyIn m K d ∗ (bodyOut m d -∗ Q ⟨⟩)) ⊢ runs d (body xM oM) Q := by
  unfold body bodyIn ghost slotsAny
  rw [bigSep_cells, bigSep_kinds (fun j => anyPts (F := F) d (dstS j))]
  unfold runs
  rw [wp_deviceId]
  iintro ⟨⟨⟨#Hr, ⟨Hb1, Hb2⟩, Htk, Htw, ⟨HaB, HaS, HaR, HaW⟩⟩, #Hl, HcB, HcR, Hw, ⟨Hss, ⟨Hd1, Hd2⟩, Hws⟩, HO, Hx, ⟨%fo, Ho⟩⟩, Hk⟩
  iapply (runs_copies m K d)
  isplitl [Hw Hws Htw]
  · iapply (Cp_start m K d)
    isplitr; · iexact Hr
    isplitl [Hw]; · iexact Hw
    isplitl [Hws]; · iexact Hws
    iexact Htw
  iintro Hc
  ihave Hwc := (Cp_end m K d) $$ Hc
  iapply (runs_bar m K d)
  isplitl [HO Hd1 Hd2 Hb1 Hb2 HcB HaB]
  · isplitr; · iexact Hr
    isplitr; · iexact Hl
    isplitl [HO]; · iexact HO
    isplitl [Hd1]; · iexact Hd1
    isplitl [Hd2]; · iexact Hd2
    isplitl [Hb1]; · iexact Hb1
    isplitl [Hb2]; · iexact Hb2
    isplitl [HcB]; · iexact HcB
    iexact HaB
  iintro ⟨HO, Hd1, Hd2, HzB⟩
  iapply (runs_loadX m d 0); isplitl [Hx]; · iexact Hx
  iintro Hx
  iapply (runs_loadX m d 1); isplitl [Hx]; · iexact Hx
  iintro Hx
  iapply (runs_loadX m d 2); isplitl [Hx]; · iexact Hx
  iintro Hx
  iapply (runs_loadX m d 3); isplitl [Hx]; · iexact Hx
  iintro Hx
  iapply (runs_waitW m K d (w := (true, 0)) (n := 0) (r := 0) (p := 0) rfl)
  isplitl [HO Hss Hd1 Hd2 Htk HcR HaR Hwc HaW]
  · iapply (St_start m K d)
    isplitr; · iexact Hr
    isplitr; · iexact Hl
    isplitl [HO]; · iexact HO
    isplitl [Hss]; · iexact Hss
    isplitl [Hd1]; · iexact Hd1
    isplitl [Hd2]; · iexact Hd2
    isplitl [Htk]; · iexact Htk
    isplitl [HcR]; · iexact HcR
    isplitl [HaR]; · iexact HaR
    isplitl [Hwc]; · iexact Hwc
    iexact HaW
  iintro Hs
  iapply (runs_first m K d); isplitl [Hs]; · iexact Hs
  iintro Hs
  iapply (runs_halfH m K d 0); isplitl [Hs]; · iexact Hs
  iintro Hs
  iapply (runs_halfO m K d 0 1 rfl); isplitl [Hs]; · iexact Hs
  iintro Hs
  iapply (runs_halfH m K d 1); isplitl [Hs]; · iexact Hs
  iintro Hs
  iapply (runs_halfO m K d 1 2 rfl); isplitl [Hs]; · iexact Hs
  iintro Hs
  iapply (runs_halfH m K d 2); isplitl [Hs]; · iexact Hs
  iintro Hs
  iapply (runs_last m K d); isplitl [Hs]; · iexact Hs
  isplitl [Ho]
  · unfold Ou
    iexists fo
    isplitr
    · ipureintro; exact fun c hc => absurd hc (Nat.not_lt_zero _)
    iexact Ho
  iintro ⟨Hs, Ho⟩
  ihave Hs' := (St_end m K d) $$ Hs
  icases Hs' with ⟨-, HO, Hlf, Hd, HzR, Hws, Hw, HzW⟩
  iapply (runs_departures m K d)
  isplitl [HO Hlf HaS]
  · iapply (Dp_start m K d)
    isplitr; · iexact Hr
    isplitl [HO]; · iexact HO
    isplitl [Hlf]; · iexact Hlf
    iexact HaS
  iintro Hs
  ihave Hs' := (Dp_end m K d) $$ Hs
  icases Hs' with ⟨HO, Hss, HzS⟩
  unfold runs
  rw [wp_ret]; imodintro
  iapply Hk
  unfold bodyOut slotsAny Ou
  rw [bigSep_cells]
  isplitl [HzB HzS HzR HzW]
  · isplitl [HzB]; · iexact HzB
    isplitl [HzS]; · iexact HzS
    isplitl [HzR]; · iexact HzR
    iexact HzW
  isplitl [Hw]; · iexact Hw
  isplitl [Hss Hd Hws]
  · isplitl [Hss]; · iexact Hss
    isplitl [Hd]; · iexact Hd
    iexact Hws
  isplitl [HO]; · iexact HO
  isplitl [Hx]; · iexact Hx
  icases Ho with ⟨%f, %hf, Ho⟩
  iexists f
  isplitr
  · ipureintro; exact fun c => hf c c.isLt
  iexact Ho

end Cert.Mlp

end
-- ==== Proof.Slots.lean ====
/-
  The communication buffers and the weights' buffers, whole and slot by slot.
-/
module

public import proofs.«01_k».proof.Proof.Body
public import Idealize.ShloMosaic.Lib.Memref

@[expose] public section

set_option synthInstance.maxSize 4096

noncomputable section

namespace Cert.Mlp

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

variable (d : Dev nD)

section Family
variable {T : Type} [Fintype T] [DecidableEq T] {sp : Space} {sh : Shape} {e : EltTy} (M : Memref sig .tc sp sh e)
  (r : T → Rect sh) (hr : ∀ t a, (r t).stride a = 1) (hd : ∀ t t', t ≠ t' → Disjoint (r t).set (r t').set)
  (hcov : (Finset.univ : Finset T).biUnion (fun t => (r t).set) = Finset.univ)

/-- A memref's elements are those of a covering family of its rectangles. -/
theorem set_family (hcov : (Finset.univ : Finset T).biUnion (fun t => (r t).set) = Finset.univ) :
    M.view.set = (Finset.univ : Finset T).biUnion fun t => (M.slice (r t) (hr t)).view.set := by
  have h (t : T) : (M.slice (r t) (hr t)).view.set = (r t).set.map M.view.emb := View.set_slice _ _
  ext i
  rw [Finset.mem_biUnion, show M.view.set = Finset.univ.map M.view.emb from rfl, Finset.mem_map]
  constructor
  · rintro ⟨x, -, rfl⟩
    obtain ⟨t, -, hx⟩ := Finset.mem_biUnion.mp (hcov.symm ▸ Finset.mem_univ x)
    exact ⟨t, Finset.mem_univ _, by rw [h]; exact Finset.mem_map_of_mem _ hx⟩
  · rintro ⟨t, -, hi⟩
    rw [h, Finset.mem_map] at hi
    obtain ⟨x, -, rfl⟩ := hi
    exact ⟨x, Finset.mem_univ _, rfl⟩

include hd in
theorem family_disjoint (t t' : T) (h : t ≠ t') : Disjoint (M.slice (r t) (hr t)).view.set (M.slice (r t') (hr t')).view.set := by
  rw [show (M.slice (r t) (hr t)).view.set = (r t).set.map M.view.emb from View.set_slice _ _,
    show (M.slice (r t') (hr t')).view.set = (r t').set.map M.view.emb from View.set_slice _ _]
  exact (Finset.disjoint_map _).mpr (hd t t' h)

theorem family_any (g : Buf (Elt F) (M.view.loc (d : Thread nD τ))) :
    (bigSep Finset.univ fun t => ((M.view.loc (d : Thread nD τ)) ↦[(M.slice (r t) (hr t)).view.set]{fullShare} g : sProp 𝕄))
      ⊢ bigSep Finset.univ fun t => iprop(∃ f, (M.slice (r t) (hr t)).view.loc (d : Thread nD τ) ↦[(M.slice (r t) (hr t)).view.set]{fullShare} f) :=
  bigSep_mono fun t _ => by
    show _ ⊢ iprop(∃ f : Buf (Elt F) (M.view.loc (d : Thread nD τ)), (M.view.loc (d : Thread nD τ)) ↦[(M.slice (r t) (hr t)).view.set]{fullShare} f)
    iintro H
    iexists g; iexact H

include hd hcov in
/-- A memref at any contents is a disjoint covering family of its slices at any contents, -/
theorem any_split : anyPts (F := F) d M ⊢ bigSep Finset.univ fun t => anyPts (F := F) d (M.slice (r t) (hr t)) := by
  unfold anyPts pts
  iintro ⟨%g, H⟩
  have he : ((M.view.loc (d : Thread nD τ)) ↦[M.view.set]{fullShare} g : sProp 𝕄)
      = bigSep Finset.univ fun t => ((M.view.loc (d : Thread nD τ)) ↦[(M.slice (r t) (hr t)).view.set]{fullShare} g) := by
    rw [set_family M r hr hcov]
    exact pointsTo_biUnion _ _ fun t _ t' _ h => family_disjoint M r hr hd t t' h
  iapply ((Entails.of_eq he).trans (family_any d M r hr g))
  iexact H

include hd hcov in
/-- and back. -/
theorem any_join : (bigSep Finset.univ fun t => anyPts (F := F) d (M.slice (r t) (hr t))) ⊢ anyPts (F := F) d M := by
  unfold anyPts pts
  iintro H
  ihave H' := (BI.bigSep_exists_pi Finset.univ (fun (t : T) (f : Buf (Elt F) (M.view.loc (d : Thread nD τ))) =>
    ((M.view.loc (d : Thread nD τ)) ↦[(M.slice (r t) (hr t)).view.set]{fullShare} f : sProp 𝕄))) $$ H
  icases H' with ⟨%fs, H⟩
  ihave H' := (pointsTo_biUnion_join Finset.univ (fun t => (M.slice (r t) (hr t)).view.set) fs (fun _ => Classical.arbitrary _)
    (fun t _ t' _ h => family_disjoint M r hr hd t t' h)) $$ H
  icases H' with ⟨%g, -, H⟩
  iexists g
  rw [set_family M r hr hcov]
  iexact H

end Family

/-! ### The families -/

theorem mem_slotR (b : Bool) (kc : Fin 3 × Fin 4) (i : (bufS b).Idx) :
    i ∈ (slotR (b, kc)).set ↔ (i 0).val = kc.1.val ∧ (i 1).val = kc.2.val := by
  rw [Rect.mem_set_unit]
  have h2 : (i 2).val < 64 := (i 2).isLt
  have h3 : (i 3).val < wd b := (i 3).isLt
  rw [Fin.forall_fin_succ, Fin.forall_fin_succ, Fin.forall_fin_succ, Fin.forall_fin_succ]
  show (kc.1.val ≤ (i 0).val ∧ (i 0).val < kc.1.val + 1) ∧ (kc.2.val ≤ (i 1).val ∧ (i 1).val < kc.2.val + 1)
    ∧ (0 ≤ (i 2).val ∧ (i 2).val < 0 + 64) ∧ (0 ≤ (i 3).val ∧ (i 3).val < 0 + wd b) ∧ _ ↔ _
  constructor
  · rintro ⟨h, h', -⟩; omega
  · intro h
    exact ⟨by omega, by omega, by omega, by omega, fun x => x.elim0⟩

theorem slotR_disjoint (b : Bool) (t t' : Fin 3 × Fin 4) (h : t ≠ t') : Disjoint (slotR (b, t)).set (slotR (b, t')).set := by
  rw [Finset.disjoint_left]
  intro i hi hi'
  rw [mem_slotR] at hi hi'
  exact h (Prod.ext (Fin.ext (hi.1.symm.trans hi'.1)) (Fin.ext (hi.2.symm.trans hi'.2)))
abbrev slotSet (b : Bool) (t : Fin 3 × Fin 4) : Finset (bufS b).Idx := (slotR (b, t)).set
theorem slotR_cover (b : Bool) : (Finset.univ : Finset (Fin 3 × Fin 4)).biUnion (slotSet b) = Finset.univ := by
  ext i
  simp only [Finset.mem_biUnion, Finset.mem_univ, true_and, iff_true]
  exact ⟨(i 0, i 1), (mem_slotR b _ i).mpr ⟨rfl, rfl⟩⟩

theorem mem_wtR (b : Bool) (k : Fin 3) (i : (wtbufS b).Idx) : i ∈ (wtR (b, k)).set ↔ (i 0).val = k.val := by
  rw [Rect.mem_set_unit]
  have h1 : (i 1).val < cond b 256 512 := (i 1).isLt
  have h2 : (i 2).val < cond b 512 256 := (i 2).isLt
  rw [Fin.forall_fin_succ, Fin.forall_fin_succ, Fin.forall_fin_succ]
  show (k.val ≤ (i 0).val ∧ (i 0).val < k.val + 1) ∧ (0 ≤ (i 1).val ∧ (i 1).val < 0 + cond b 256 512)
    ∧ (0 ≤ (i 2).val ∧ (i 2).val < 0 + cond b 512 256) ∧ _ ↔ _
  constructor
  · rintro ⟨h, -⟩; omega
  · intro h
    exact ⟨by omega, by omega, by omega, fun x => x.elim0⟩

theorem wtR_disjoint (b : Bool) (t t' : Fin 3) (h : t ≠ t') : Disjoint (wtR (b, t)).set (wtR (b, t')).set := by
  rw [Finset.disjoint_left]
  intro i hi hi'
  rw [mem_wtR] at hi hi'
  exact h (Fin.ext (hi.symm.trans hi'))
abbrev wtSet (b : Bool) (t : Fin 3) : Finset (wtbufS b).Idx := (wtR (b, t)).set
theorem wtR_cover (b : Bool) : (Finset.univ : Finset (Fin 3)).biUnion (wtSet b) = Finset.univ := by
  ext i
  simp only [Finset.mem_biUnion, Finset.mem_univ, true_and, iff_true]
  exact ⟨i 0, (mem_wtR b _ i).mpr rfl⟩

/-! ### The buffers -/

/-- The buffers of the slots, whole. -/
def buffers : sProp 𝕄 :=
  iprop((anyPts (F := F) d (sndM true) ∗ anyPts (F := F) d (sndM false)) ∗ (anyPts (F := F) d (rcvM true) ∗ anyPts (F := F) d (rcvM false))
    ∗ (anyPts (F := F) d (wbufM true) ∗ anyPts (F := F) d (wbufM false)))

theorem any_wslotM (w : Wt) : anyPts (F := F) d (wslotM w) = anyPts (F := F) d (wslotS w) := by
  unfold anyPts pts
  rw [show (wslotM w).view.set = (wslotS w).view.set from View.set_reshape _ _]

theorem onWts_kinds (Φ : Wt → sProp 𝕄) :
    onWts Φ = iprop((bigSep Finset.univ fun k : Fin 3 => Φ (true, k)) ∗ bigSep Finset.univ fun k : Fin 3 => Φ (false, k)) := by
  unfold onWts
  rw [bigSep_univ_prod, bigSep_univ_eq_bigSepL [true, false] (by decide) (by decide), bigSepL_cons_cons, bigSepL_singleton]
  rfl

theorem slots_split : buffers (F := F) d ⊢ slotsAny d := by
  unfold buffers slotsAny
  rw [bigSep_kinds, bigSep_kinds, show onWts (fun w => anyPts (F := F) d (wslotM w)) = onWts (fun w => anyPts (F := F) d (wslotS w)) from
    bigSep_congr fun w _ => any_wslotM d w, onWts_kinds]
  refine sep_mono (sep_mono ?_ ?_) (sep_mono (sep_mono ?_ ?_) (sep_mono ?_ ?_))
  · exact any_split d (sndM true) (fun kc => slotR (true, kc)) (fun _ _ => rfl) (slotR_disjoint true) (slotR_cover true)
  · exact any_split d (sndM false) (fun kc => slotR (false, kc)) (fun _ _ => rfl) (slotR_disjoint false) (slotR_cover false)
  · exact any_split d (rcvM true) (fun kc => slotR (true, kc)) (fun _ _ => rfl) (slotR_disjoint true) (slotR_cover true)
  · exact any_split d (rcvM false) (fun kc => slotR (false, kc)) (fun _ _ => rfl) (slotR_disjoint false) (slotR_cover false)
  · exact any_split d (wbufM true) (fun k => wtR (true, k)) (fun _ _ => rfl) (wtR_disjoint true) (wtR_cover true)
  · exact any_split d (wbufM false) (fun k => wtR (false, k)) (fun _ _ => rfl) (wtR_disjoint false) (wtR_cover false)

theorem slots_join : slotsAny d ⊢ buffers (F := F) d := by
  unfold buffers slotsAny
  rw [bigSep_kinds, bigSep_kinds, show onWts (fun w => anyPts (F := F) d (wslotM w)) = onWts (fun w => anyPts (F := F) d (wslotS w)) from
    bigSep_congr fun w _ => any_wslotM d w, onWts_kinds]
  refine sep_mono (sep_mono ?_ ?_) (sep_mono (sep_mono ?_ ?_) (sep_mono ?_ ?_))
  · exact any_join d (sndM true) (fun kc => slotR (true, kc)) (fun _ _ => rfl) (slotR_disjoint true) (slotR_cover true)
  · exact any_join d (sndM false) (fun kc => slotR (false, kc)) (fun _ _ => rfl) (slotR_disjoint false) (slotR_cover false)
  · exact any_join d (rcvM true) (fun kc => slotR (true, kc)) (fun _ _ => rfl) (slotR_disjoint true) (slotR_cover true)
  · exact any_join d (rcvM false) (fun kc => slotR (false, kc)) (fun _ _ => rfl) (slotR_disjoint false) (slotR_cover false)
  · exact any_join d (wbufM true) (fun k => wtR (true, k)) (fun _ _ => rfl) (wtR_disjoint true) (wtR_cover true)
  · exact any_join d (wbufM false) (fun k => wtR (false, k)) (fun _ _ => rfl) (wtR_disjoint false) (wtR_cover false)

end Cert.Mlp

end
-- ==== Proof.Launch.lean ====
/-
  The launch: what it deals every device of the protocol, and the run of the whole program.
-/
module

public import proofs.«01_k».proof.Proof.Slots
public import Idealize.ShloMosaic.Lib.Pipeline.CollectiveSegs

@[expose] public section

set_option synthInstance.maxSize 4096

noncomputable section

namespace Cert.Mlp

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

variable (m : (ℓ : Loc nD τ sig) → Buf (Elt F) ℓ) (ρ : Dev nD → PrngReg)

/-! ### The ghost state at launch -/

/-- The kernel's own semaphores: a departure's, an arrival's, a weight's. -/
abbrev osem (k : Msg ⊕ Msg ⊕ Wt) : SemLoc sig := csem (some k)

theorem osem_scoped : ∀ k, (osem k).isScoped .tc = true := by decide +kernel
theorem osem_disjoint : ∀ k w s, osem k ≠ .dma ((cfg0.spec w).sem s) := by decide +kernel
theorem ownSemFacts : Pipeline.OwnSemFacts cfg0.spec osem :=
  ⟨osem_scoped, fun a b h => Option.some.inj (csem_injective h), osem_disjoint⟩

/-- Over the cells: the barrier's, then the own ones. -/
theorem bigSep_own (Φ : CK → sProp 𝕄) :
    bigSep Finset.univ Φ = iprop(Φ bar ∗ bigSep Finset.univ fun k : Msg ⊕ Msg ⊕ Wt => Φ (some k)) := by
  have h : (Finset.univ : Finset CK).erase none = Finset.univ.map Function.Embedding.some := by
    ext x; rcases x with _ | x <;> simp
  rw [bigSep_univ_at Φ none, h, bigSep_map]
  rfl

def theCells : Finset (GSem nD τ sig) := Finset.univ.map ⟨kcell, kcell_injective⟩

/-- A duty of a device's cells: one of its barrier's two, or another cell's one. -/
abbrev TK := Bool ⊕ (Msg ⊕ Msg ⊕ Wt)
def tokOf : Dev nD × TK → GSem nD τ sig × ℕ × Bool
  | (d, .inl b) => (kcell (d, bar), 0, b)
  | (d, .inr k) => (kcell (d, some k), 0, false)
theorem tokOf_injective : Function.Injective tokOf := by
  rintro ⟨d, b | k⟩ ⟨d', b' | k'⟩ h
  · have h1 := kcell_injective (congrArg Prod.fst h : kcell (d, bar) = kcell (d', bar))
    have h2 : b = b' := congrArg (fun x : GSem nD τ sig × ℕ × Bool => x.2.2) h
    have h3 : d = d' := congrArg Prod.fst h1
    rw [h2, h3]
  · have h1 := kcell_injective (congrArg Prod.fst h : kcell (d, bar) = kcell (d', some k'))
    cases congrArg Prod.snd h1
  · have h1 := kcell_injective (congrArg Prod.fst h : kcell (d, some k) = kcell (d', bar))
    cases congrArg Prod.snd h1
  · have h1 := kcell_injective (congrArg Prod.fst h : kcell (d, some k) = kcell (d', some k'))
    have h2 : k = k' := Option.some.inj (congrArg Prod.snd h1)
    have h3 : d = d' := congrArg Prod.fst h1
    rw [h2, h3]
def theToks : Finset (GSem nD τ sig × ℕ × Bool) := Finset.univ.map ⟨tokOf, tokOf_injective⟩

def u₀ : UU := (initOf (Pipeline.cells cfgs cellOf_inj) (Pipeline.launchToks cfgs cellOf_inj), initOf theCells theToks)

/-- The duties of device `d`'s own cells. -/
def toks (d : Dev nD) : sProp 𝕄 :=
  iprop((dutyTok ER (kcell (d, bar)) 0 true ∗ dutyTok ER (kcell (d, bar)) 0 false)
    ∗ onMsgs (fun j => dutyTok ER (kcell (d, snd j)) 0 false) ∗ onMsgs (fun j => dutyTok ER (kcell (d, rcv j)) 0 false)
    ∗ onWts (fun w => dutyTok ER (kcell (d, wt w)) 0 false))

/-- What the launch deals device `d`: its cells' states, where it stands in them, and their duties. -/
def G (d : Dev nD) : sProp 𝕄 :=
  iprop((bigSep Finset.univ fun k : CK => roundState ER (Rd m) (kcell (d, k)) 0)
    ∗ ((bigSep Finset.univ fun k : CK => atPos ER (kcell (d, k)) 0 ∅ 0) ∗ bigSep Finset.univ fun k : CK => reached ER (kcell (d, k)) 0) ∗ toks d)

/-- What the devices together make of it. -/
def G' (d : Dev nD) : sProp 𝕄 := iprop(∃ K, ghost m K d)

theorem on_cells (Φ : GSem nD τ sig → sProp 𝕄) :
    bigSep theCells Φ = bigSep Finset.univ fun d : Dev nD => bigSep Finset.univ fun k : CK => Φ (kcell (d, k)) := by
  unfold theCells; rw [bigSep_map, bigSep_univ_prod]; rfl

theorem on_toks : bigSep theToks (fun x => (dutyTok ER x.1 x.2.1 x.2.2 : sProp 𝕄)) = bigSep Finset.univ fun d : Dev nD => toks d := by
  unfold theToks
  rw [bigSep_map, bigSep_univ_prod]
  refine bigSep_congr fun d _ => ?_
  rw [bigSep_univ_sum, bigSep_univ_sum, bigSep_univ_sum, bigSep_univ_eq_bigSepL [true, false] (by decide) (by decide), bigSepL_cons_cons, bigSepL_singleton]
  rfl

theorem fund : BI.own (ER (initOf theCells theToks)) ⊢ (|==> bigSep Finset.univ (G m) : sProp 𝕄) := by
  iintro HX
  imod (Rounds.fund ER (Rd m) theCells theToks) $$ HX with ⟨Hst, Hr, Hat, Htok⟩
  imodintro
  ihave Hst' := (Entails.of_eq (on_cells fun g => roundState ER (Rd m) g 0)) $$ Hst
  ihave Hat' := (Entails.of_eq (on_cells fun g => atPos ER g 0 ∅ 0)) $$ Hat
  ihave Hr' := (Entails.of_eq (on_cells fun g => reached ER g 0)) $$ Hr
  ihave Htok' := (Entails.of_eq on_toks) $$ Htok
  unfold G; simp only [bigSep_sep']
  isplitl [Hst']; · iexact Hst'
  isplitl [Hat' Hr']
  · isplitl [Hat'] <;> iassumption
  iexact Htok'

theorem unscopedSems0_eq (d : Dev nD) : (unscopedSems0 d : sProp 𝕄) = semVal (kcell (d, bar)) 0 := by
  unfold unscopedSems0; rw [bigSep_eq_bigSepL_of_eq [SemLoc.reg barS] (by decide) (by decide)]; rfl

/-- All of a device's semaphores. -/
theorem sems0_eq (d : Dev nD) :
    (iprop(Pipeline.ownSems0 (Ix := Unit) (Name := ℕ) (U := UU) (Lvl := ℕ) (Val := Elt F) (τ := τ) osem d ∗ unscopedSems0 d) : sProp 𝕄)
      ⊢ (bigSep Finset.univ fun k : CK => semVal (kcell (d, k)) 0) := by
  rw [unscopedSems0_eq, bigSep_own]
  unfold Pipeline.ownSems0
  iintro ⟨HS, HB⟩
  isplitl [HB]; · iexact HB
  iexact HS
theorem sems0_eq' (d : Dev nD) : (bigSep Finset.univ fun k : CK => semVal (kcell (d, k)) 0)
    ⊢ (iprop(Pipeline.ownSems0 (Ix := Unit) (Name := ℕ) (U := UU) (Lvl := ℕ) (Val := Elt F) (τ := τ) osem d ∗ unscopedSems0 d) : sProp 𝕄) := by
  rw [unscopedSems0_eq, bigSep_own]
  unfold Pipeline.ownSems0
  iintro ⟨HB, HS⟩
  isplitl [HS]; · iexact HS
  iexact HB

theorem inv_intro (d : Dev nD) :
    iprop((bigSep Finset.univ fun k : CK => semVal (kcell (d, k)) 0) ∗ bigSep Finset.univ fun k : CK => roundState ER (Rd m) (kcell (d, k)) 0)
      ⊢ (|={Set.univ}=> bigSep Finset.univ fun k : CK => iprop(∃ κ : ℕ, cellInv ER (Rd m) κ (kcell (d, k))) : sProp 𝕄) := by
  rw [← bigSep_sep']
  exact (bigSep_mono fun k _ => (Rounds.body_intro ER (Rd m) (kcell (d, k))).trans inv_alloc).trans (bigSep_fupd _ _)

theorem alloc (d : Dev nD) :
    iprop(Pipeline.ownSems0 (Ix := Unit) (Name := ℕ) (U := UU) (Lvl := ℕ) (Val := Elt F) (τ := τ) osem d ∗ unscopedSems0 d ∗ G m d)
      ⊢ |={Set.univ}=> iprop((bigSep Finset.univ fun k : CK => iprop(∃ κ : ℕ, cellInv ER (Rd m) κ (kcell (d, k))))
          ∗ ((bigSep Finset.univ fun k : CK => atPos ER (kcell (d, k)) 0 ∅ 0) ∗ bigSep Finset.univ fun k : CK => reached ER (kcell (d, k)) 0) ∗ toks d) := by
  unfold G
  iintro ⟨Hos, Hus, Hst, Hat, Htok⟩
  ihave Hv := (sems0_eq (F := F) d) $$ [Hos Hus]
  · isplitl [Hos] <;> iassumption
  imod (inv_intro m d) $$ [Hv Hst] with Hinv
  · isplitl [Hv] <;> iassumption
  imodintro
  isplitl [Hinv]; · iexact Hinv
  isplitl [Hat]; · iexact Hat
  iexact Htok

/-- The duties a device pays: its neighbours' barriers, its departures, the arrivals it causes, its weights. -/
def payToks (d : Dev nD) : sProp 𝕄 :=
  iprop((dutyTok ER (kcell (peer true d, bar)) 0 true ∗ dutyTok ER (kcell (peer false d, bar)) 0 false)
    ∗ onMsgs (fun j => dutyTok ER (kcell (d, snd j)) 0 false) ∗ onMsgs (fun j => dutyTok ER (kcell (peer j.1 d, rcv j)) 0 false)
    ∗ onWts (fun w => dutyTok ER (kcell (d, wt w)) 0 false))

/-- Each message at the device it arrives at. -/
def across : Dev nD × Msg ≃ Dev nD × Msg where
  toFun x := (peer x.2.1 x.1, x.2)
  invFun x := (peer x.2.1 x.1, x.2)
  left_inv x := by dsimp only; rw [peer_peer]
  right_inv x := by dsimp only; rw [peer_peer]

theorem on_across (Φ : Dev nD × Msg → sProp 𝕄) :
    (bigSep Finset.univ fun d : Dev nD => onMsgs fun j => Φ (d, j)) = bigSep Finset.univ fun d : Dev nD => onMsgs fun j => Φ (peer j.1 d, j) := by
  rw [← bigSep_univ_prod Φ, bigSep_univ_equiv across, bigSep_univ_prod]
  rfl

theorem toks_around : (bigSep Finset.univ fun d : Dev nD => (toks d : sProp 𝕄)) = bigSep Finset.univ fun d : Dev nD => payToks d := by
  unfold toks payToks
  rw [bigSep_sep', bigSep_sep', bigSep_sep', bigSep_sep', bigSep_sep', bigSep_sep', bigSep_sep', bigSep_sep',
    on_across (fun x => dutyTok ER (kcell (x.1, rcv x.2)) 0 false),
    bigSep_univ_equiv (swap true) (fun d : Dev nD => (dutyTok ER (kcell (d, bar)) 0 true : sProp 𝕄)),
    bigSep_univ_equiv (swap false) (fun d : Dev nD => (dutyTok ER (kcell (d, bar)) 0 false : sProp 𝕄))]
  rfl

theorem ghost_intro (K : Dev nD × CK → ℕ) (d : Dev nD) :
    iprop(recs m K ∗ ((bigSep Finset.univ fun k : CK => atPos ER (kcell (d, k)) 0 ∅ 0) ∗ payToks d)) ⊢ G' m d := by
  unfold payToks G' ghost
  rw [show (onMsgs fun j : Msg => (iprop(dutyTok ER (kcell (d, snd j)) 0 false ∗ dutyTok ER (kcell (peer j.1 d, rcv j)) 0 false) : sProp 𝕄))
    = iprop(onMsgs (fun j => dutyTok ER (kcell (d, snd j)) 0 false) ∗ onMsgs fun j => dutyTok ER (kcell (peer j.1 d, rcv j)) 0 false) from bigSep_sep' _ _ _]
  iintro ⟨Hr, Ha, Hb, Hs, Hv, Hw⟩
  iexists K
  isplitl [Hr]; · iexact Hr
  isplitl [Hb]; · iexact Hb
  isplitl [Hs Hv]
  · isplitl [Hs]; · iexact Hs
    iexact Hv
  isplitl [Hw]; · iexact Hw
  iexact Ha

/-- A persistent fact serves every member of a family. -/
theorem each_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans ((Entails.of_eq (bigSep_sep' S (fun _ => R) Φ).symm).trans (bigSep_mono h))

theorem regroup :
    (bigSep Finset.univ fun d : Dev nD => iprop((bigSep Finset.univ fun k : CK => iprop(∃ κ : ℕ, cellInv ER (Rd m) κ (kcell (d, k))))
          ∗ ((bigSep Finset.univ fun k : CK => atPos ER (kcell (d, k)) 0 ∅ 0) ∗ bigSep Finset.univ fun k : CK => reached ER (kcell (d, k)) 0) ∗ toks d) : sProp 𝕄)
      ⊢ bigSep Finset.univ (G' m) := by
  rw [bigSep_sep', bigSep_sep', bigSep_sep', ← bigSep_univ_prod (fun x : Dev nD × CK => iprop(∃ κ : ℕ, cellInv ER (Rd m) κ (kcell x))),
    ← bigSep_univ_prod (fun x : Dev nD × CK => (reached ER (kcell x) 0 : sProp 𝕄)), toks_around]
  iintro ⟨HI, ⟨Hat, #HR⟩, Htok⟩
  ihave HK := (BI.bigSep_exists_pi Finset.univ (fun (x : Dev nD × CK) (κ : ℕ) => (cellInv ER (Rd m) κ (kcell x) : sProp 𝕄))) $$ HI
  icases HK with ⟨%K, #HI⟩
  iapply (each_with (R := recs m K) fun d _ => ghost_intro m K d)
  isplitr
  · unfold recs; isplitl; · iexact HI
    iexact HR
  · iapply (Entails.of_eq (bigSep_sep' Finset.univ (fun d : Dev nD => bigSep Finset.univ fun k : CK => (atPos ER (kcell (d, k)) 0 ∅ 0 : sProp 𝕄)) payToks).symm)
    isplitl [Hat]; · iexact Hat
    iexact Htok

theorem glob : (bigSep Finset.univ fun d => iprop(Pipeline.ownSems0 (Ix := Unit) (Name := ℕ) (U := UU) (Lvl := ℕ) (Val := Elt F) (τ := τ) osem d
      ∗ unscopedSems0 d ∗ G m d) : sProp 𝕄) ⊢ |={Set.univ}=> bigSep Finset.univ (G' m) :=
  ((bigSep_mono fun d _ => alloc m d).trans (bigSep_fupd _ _)).trans (BI.fupd_mono (regroup m))

/-! ### The credit at launch -/

theorem kcell_eq (x y : Dev nD × CK) : (kcell x = kcell y) ↔ x = y := ⟨fun h => kcell_injective h, fun h => by rw [h]⟩

theorem owed_at (d c : Dev nD) (k : CK) :
    owed d 0 (kcell (c, k)) () = ∑ j : Msg, if (c, k) = (peer j.1 d, rcv j) then msgN j else 0 := by
  unfold owed
  rw [past_zero, Finset.sum_apply, Finsupp.finset_sum_apply]
  refine Finset.sum_congr rfl fun j _ => ?_
  rw [tallyAt_apply]
  simp only [kcell_eq, _root_.and_true]

theorem O₀_at (d c : Dev nD) (k : CK) :
    O₀ d (kcell (c, k)) () = (∑ j : Msg, if (c, k) = (peer j.1 d, rcv j) then msgN j else 0)
      + (if (c, k) = (peer false d, bar) then 1 else 0) + (if (c, k) = (peer true d, bar) then 1 else 0) := by
  unfold O₀ O₁
  rw [Pi.add_apply, Finsupp.add_apply, Pi.add_apply, Finsupp.add_apply, owed_at, tallyAt_apply, tallyAt_apply]
  simp only [kcell_eq, _root_.and_true]

theorem peer_eq (b : Bool) (c d : Dev nD) : (c = peer b d) ↔ d = peer b c :=
  ⟨fun h => by rw [h, peer_peer], fun h => by rw [h, peer_peer]⟩

theorem credit_bar (c : Dev nD) : ∑ d : Dev nD, O₀ d (kcell (c, bar)) () = 2 := by
  have h (d : Dev nD) : O₀ d (kcell (c, bar)) () = (if d = peer false c then 1 else 0) + (if d = peer true c then 1 else 0) := by
    have n (j : Msg) : ¬ (c, bar) = (peer j.1 d, rcv j) := fun e => by cases congrArg Prod.snd e
    rw [O₀_at, Finset.sum_eq_zero fun j _ => if_neg (n j), Nat.zero_add]
    simp only [Prod.mk.injEq, _root_.and_true, peer_eq]
  rw [Finset.sum_congr rfl fun d _ => h d, Finset.sum_add_distrib, Finset.sum_ite_eq' Finset.univ _ fun _ => 1,
    Finset.sum_ite_eq' Finset.univ _ fun _ => 1, if_pos (Finset.mem_univ _), if_pos (Finset.mem_univ _)]

theorem credit_rcv (c : Dev nD) (i : Msg) : ∑ d : Dev nD, O₀ d (kcell (c, rcv i)) () = msgN i := by
  have h (d : Dev nD) : O₀ d (kcell (c, rcv i)) () = if d = peer i.1 c then msgN i else 0 := by
    have n1 : ¬ (c, rcv i) = (peer false d, bar) := fun e => by cases congrArg Prod.snd e
    have n2 : ¬ (c, rcv i) = (peer true d, bar) := fun e => by cases congrArg Prod.snd e
    rw [O₀_at, if_neg n1, if_neg n2, Nat.add_zero,
      Finset.sum_eq_single_of_mem i (Finset.mem_univ i) fun j _ hj => if_neg fun e => hj (by
        have := congrArg Prod.snd e
        exact (Sum.inl.inj (Sum.inr.inj (Option.some.inj this))).symm)]
    simp only [Prod.mk.injEq, _root_.and_true, peer_eq]
  rw [Finset.sum_congr rfl fun d _ => h d, Finset.sum_ite_eq' Finset.univ _ fun _ => msgN i, if_pos (Finset.mem_univ _)]

theorem launch_cell (c : Dev nD) (k : CK) (n : ℕ) (h : ∑ d : Dev nD, O₀ d (kcell (c, k)) () = n) :
    tallyOn (kcell (c, k)) (launchCredit (Pipeline.owing O₀) 0 (kcell (c, k))) = (tallyAt (kcell (c, k)) () n : CellTallies nD τ sig Unit) := by
  unfold tallyAt
  refine congrArg _ (Finsupp.ext fun u => ?_)
  cases u
  rw [Pipeline.launchCredit_owing, h, Finsupp.single_eq_same]

/-- A device's credit at launch: its barrier's two units and every message's to it. -/
theorem creds (d : Dev nD) : (Pipeline.launchCred O₀ d : sProp 𝕄)
    ⊢ iprop(cred (tallyAt (kcell (d, bar)) () 2) ∗ onMsgs fun j => cred (tallyAt (kcell (d, rcv j)) () (msgN j))) := by
  unfold Pipeline.launchCred
  refine (bigSep_subset (Finset.subset_univ (Finset.univ.map ⟨csem, csem_injective⟩))).trans ?_
  rw [bigSep_map, bigSep_cells]
  have hb := launch_cell d bar 2 (credit_bar d)
  have hr (j : Msg) := launch_cell d (rcv j) (msgN j) (credit_rcv d j)
  refine BIClass.sep_mono (Entails.of_eq (congrArg cred hb)) ?_
  iintro ⟨-, H, -⟩
  iapply (Entails.of_eq (show (onMsgs fun j => (cred (tallyOn (kcell (d, rcv j)) (launchCredit (Pipeline.owing O₀) 0 (kcell (d, rcv j)))) : sProp 𝕄))
    = onMsgs fun j => cred (tallyAt (kcell (d, rcv j)) () (msgN j)) from bigSep_congr fun j _ => congrArg cred (hr j)))
  iexact H

end Cert.Mlp

end
-- ==== Proof.Run.lean ====
/-
  The run of the whole program: on every device the result's array ends at the values of
  Values.lean, the arguments as they were, every semaphore at zero.
-/
module

public import proofs.«01_k».proof.Proof.Launch
public import Idealize.ShloMosaic.Lib.Pipeline.Value

@[expose] public section

set_option synthInstance.maxSize 4096

noncomputable section

namespace Cert.Mlp

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

variable (m : (ℓ : Loc nD τ sig) → Buf (Elt F) ℓ) (ρ : Dev nD → PrngReg)

/-- The launch's memory: the given arrays, every semaphore at zero. -/
abbrev s₀ : MemSt nD τ sig (Elt F) := { mem := m, sem := fun _ => 0, prng := ρ }

/-! ### The one grid point -/

/-- What a device holds when it enters the kernel, beside the windows' arrays and its own buffers, -/
def start (c : Dev nD) : sProp 𝕄 :=
  iprop(G' m c ∗ levAts L lv ∗ (cred (tallyAt (kcell (c, bar)) () 2) ∗ onMsgs fun j => cred (tallyAt (kcell (c, rcv j)) () (msgN j))) ∗ weights m c)
/-- before its point -/
def Φ₀ (c : Dev nD) : sProp 𝕄 := iprop(start m c ∗ slotsAny c)
/-- and after it. -/
def Φ₁ (c : Dev nD) : sProp 𝕄 :=
  iprop((bigSep Finset.univ fun k : CK => semVal (kcell (c, k)) 0) ∗ weights m c ∗ slotsAny c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m c
    | ⟨1, _⟩ => outV (xstg m) (wval m) c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem owns_whole (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

theorem pts_whole (c : Dev nD) (b : Ref sig .tc) (f : Buf (Elt F) ((c : Thread nD τ).loc b)) :
    (pts c (Memref.whole b) f : sProp 𝕄) = (((c : Thread nD τ).loc b) ↦{fullShare} f) := by
  unfold pts; simp only [Memref.view_whole, View.set_whole]

/-- A buffer that reads chunk by chunk as a device's result is that result. -/
theorem eq_outV (d : Dev nD) (f : (cc0_stg1_0 : Ref sig .tc).ty.Contents (Elt F))
    (h : ∀ c : Fin 4, (oM.view.slice (chunkR c)).read (Elt F) f = outChunk (A m d 3 c)) : f = outV (xstg m) (wval m) d := by
  funext i
  let y : S64x256.Idx := fun a => match a with
    | 0 => ⟨(i 0).val % 64, Nat.mod_lt _ (by decide)⟩
    | 1 => ⟨(i 1).val, (i 1).isLt⟩
  have hi : (i 0).val / 64 < 4 := by have : (i 0).val < 256 := (i 0).isLt; omega
  have hy : (chunkR ⟨(i 0).val / 64, hi⟩).emb y = i := by
    funext a
    refine Fin.ext ?_
    fin_cases a
    · show 64 * ((i 0).val / 64) + 1 * ((i 0).val % 64) = (i 0).val
      omega
    · show 0 + 1 * (i 1).val = (i 1).val
      omega
  have e : f ((chunkR ⟨(i 0).val / 64, hi⟩).emb y) = outChunk (A m d 3 ⟨(i 0).val / 64, hi⟩) y := congrFun (h ⟨(i 0).val / 64, hi⟩) y
  rw [hy] at e
  exact e

def bodyPre' (c : Dev nD) : sProp 𝕄 :=
  iprop(Φ₀ m c ∗ (dats m ρ 0 c).owesAt () t0_0.castSucc
    ∗ (∃ d, ∃ f : Buf (Elt F) ((c : Thread nD τ).loc cc0_stg0_0), ⌜f = (dats m ρ 0 c).before (0 : Fin 2) t0_0 d⌝ ∗ ((c : Thread nD τ).loc cc0_stg0_0) ↦{fullShare} f)
    ∗ (∃ d, ∃ f : Buf (Elt F) ((c : Thread nD τ).loc cc0_stg1_0), ⌜f = (dats m ρ 0 c).before (1 : Fin 2) t0_0 d⌝ ∗ ((c : Thread nD τ).loc cc0_stg1_0) ↦{fullShare} f))

def bodyPost' (c : Dev nD) : sProp 𝕄 :=
  iprop(Φ₁ m c ∗ (dats m ρ 0 c).owesAt () t0_0.succ
    ∗ (∃ f : Buf (Elt F) ((c : Thread nD τ).loc cc0_stg0_0), ⌜f = xstg m c⌝ ∗ ((c : Thread nD τ).loc cc0_stg0_0) ↦{fullShare} f)
    ∗ (∃ f : Buf (Elt F) ((c : Thread nD τ).loc cc0_stg1_0), ⌜f = outV (xstg m) (wval m) c⌝ ∗ ((c : Thread nD τ).loc cc0_stg1_0) ↦{fullShare} f))

theorem before_x (c : Dev nD) (d : (cc0_stg0_0 : Ref sig .tc).ty.Contents (Elt F)) : (dats m ρ 0 c).before (0 : Fin 2) t0_0 d = xstg m c := by
  unfold Dat.before
  rw [if_pos (fetch0_0 t0_0)]
  rfl

theorem body_start (K : Dev nD × CK → ℕ) (c : Dev nD) (W : Waits sig Unit)
    (f0 : Buf (Elt F) ((c : Thread nD τ).loc cc0_stg0_0)) (h0 : f0 = xstg m c) (f1 : Buf (Elt F) ((c : Thread nD τ).loc cc0_stg1_0)) :
    iprop((ghost m K c ∗ levAts L lv ∗ (cred (tallyAt (kcell (c, bar)) () 2) ∗ onMsgs fun j => cred (tallyAt (kcell (c, rcv j)) () (msgN j))) ∗ weights m c)
      ∗ slotsAny c ∗ owes (c : Thread nD τ) (O₀ c) W
      ∗ (((c : Thread nD τ).loc cc0_stg0_0) ↦{fullShare} f0) ∗ ((c : Thread nD τ).loc cc0_stg1_0) ↦{fullShare} f1) ⊢ bodyIn m K c := by
  subst h0
  rw [← pts_whole, ← pts_whole]
  unfold bodyIn
  iintro ⟨⟨Hg, Hl, ⟨Hb, Hr⟩, Hw⟩, Hs, HO, Hx, Ho⟩
  isplitl [Hg]; · iexact Hg
  isplitl [Hl]; · iexact Hl
  isplitl [Hb]; · iexact Hb
  isplitl [Hr]; · iexact Hr
  isplitl [Hw]; · iexact Hw
  isplitl [Hs]; · iexact Hs
  isplitl [HO]; · iexists W; iexact HO
  isplitl [Hx]; · iexact Hx
  iexists f1; iexact Ho

theorem body_end (c : Dev nD) : bodyOut m c ⊢ bodyPost' m ρ c := by
  unfold bodyOut bodyPost' Φ₁ Dat.owesAt Pipeline.owesWithin
  rw [show (dats m ρ 0 c).owed t0_0.succ = 0 from rfl]
  iintro ⟨Hz, Hw, Hs, ⟨%W, HO⟩, Hx, ⟨%f, %hf, Ho⟩⟩
  ihave Hx' := (Entails.of_eq (pts_whole c cc0_stg0_0 (xstg m c))) $$ Hx
  ihave Ho' := (Entails.of_eq (pts_whole c cc0_stg1_0 f)) $$ Ho
  isplitl [Hz Hw Hs]
  · isplitl [Hz]; · iexact Hz
    isplitl [Hw]; · iexact Hw
    iexact Hs
  isplitl [HO]
  · iexists W
    isplitr; · ipureintro; exact fun _ _ => Or.inl trivial
    iexact HO
  isplitl [Hx']
  · iexists (xstg m c); isplitr; · ipureintro; rfl
    iexact Hx'
  iexists f
  isplitr; · ipureintro; exact eq_outV m c f hf
  iexact Ho'

theorem run_point (c : Dev nD) : bodyPre' m ρ c ⊢ runs c (body xM oM) (fun _ => bodyPost' m ρ c) := by
  unfold bodyPre' Φ₀ start G' Dat.owesAt Pipeline.owesWithin
  rw [show (dats m ρ 0 c).owed t0_0.castSucc = O₀ c from rfl]
  iintro ⟨⟨⟨⟨%K, Hg⟩, Hl, Hc, Hw⟩, Hs⟩, ⟨%W, -, HO⟩, ⟨%d0, %f0, %h0, Hx⟩, ⟨%d1, %f1, -, Ho⟩⟩
  iapply (runs_body m K c fun _ => bodyPost' m ρ c)
  isplitr []
  · iapply (body_start m K c W f0 (h0.trans (before_x m ρ c d0)) f1)
    isplitl [Hg Hl Hc Hw]
    · isplitl [Hg]; · iexact Hg
      isplitl [Hl]; · iexact Hl
      isplitl [Hc]; · iexact Hc
      iexact Hw
    isplitl [Hs]; · iexact Hs
    isplitl [HO]; · iexact HO
    isplitl [Hx] <;> iassumption
  · iintro H; iapply (body_end m ρ c); iexact H

set_option maxRecDepth 16000 in
/-- What the pipeline asks of the kernel's body on a device. -/
theorem body_obligation (c : Dev nD) : BodyObligation (dats (F := F) m ρ 0 c) (defs₀ (F := F)) 𝒱₀ () Set.univ := fun t => by
  rw [fin_N0 t]
  rw [bigSep_W0, bigSep_W0]
  simp only [owns_whole]
  show bodyPre' m ρ c ⊢ wp frame (wpE (defs₀ (F := F)) 𝒱₀ c none) Set.univ (bodyAt0 t0_0) (fun _ => bodyPost' m ρ c)
  rw [bodyAt_eq]
  exact run_point m ρ c

/-! ### The launch's side conditions -/

theorem share_eq (c : Dev nD) (w : Fin cfg0.W) : (dats m ρ 0 c).share w = fullShare := by unfold Dat.share; split <;> rfl

theorem wts_eq (Φ : Wt → sProp 𝕄) :
    onWts Φ = iprop(Φ (true, 0) ∗ Φ (true, 1) ∗ Φ (true, 2) ∗ Φ (false, 0) ∗ Φ (false, 1) ∗ Φ (false, 2)) :=
  bigSep_univ_eq_bigSepL [(true, 0), (true, 1), (true, 2), (false, 0), (false, 1), (false, 2)] (by decide) (by decide) Φ

theorem whbm_set : ∀ w, (whbm w).view.set = Finset.univ
  | (true, 0) => View.set_whole _
  | (true, 1) => View.set_whole _
  | (true, 2) => View.set_whole _
  | (false, 0) => View.set_whole _
  | (false, 1) => View.set_whole _
  | (false, 2) => View.set_whole _

/-- The weights' arrays, each whole. -/
theorem weights_eq (c : Dev nD) :
    (weights m c : sProp 𝕄) = onWts fun w => (((whbm w).view.loc (c : Thread nD τ)) ↦{fullShare} m ((whbm w).view.loc (c : Thread nD τ))) := by
  unfold weights
  refine bigSep_congr fun w _ => ?_
  unfold pts
  rw [whbm_set]

theorem weights_intro (c : Dev nD) :
    Pipeline.unscopedRestP Pipeline.Prefetch.none cfg0.spec c (fun b => m ((c : Thread nD τ).loc b)) ⊢ (weights m c : sProp 𝕄) := by
  rw [Pipeline.unscopedRestP_none, weights_eq, wts_eq]
  exact Entails.of_eq (unscopedRest0_eq c _)

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨Hw, Hl, Hc, -, HG⟩
  ihave Hw' := (weights_intro m c) $$ Hw
  ihave Hc' := (creds (F := F) c) $$ Hc
  imodintro
  unfold start
  isplitl
  · isplitl [HG]; · iexact HG
    isplitl [Hl]; · iexact Hl
    isplitl [Hc']; · iexact Hc'
    iexact Hw'
  · iempintro

theorem any_whole (c : Dev nD) (b : Ref sig .tc) :
    (anyPts c (Memref.whole b) : sProp 𝕄) = iprop(∃ f : Buf (Elt F) ((c : Thread nD τ).loc b), ((c : Thread nD τ).loc b) ↦{fullShare} f) := by
  unfold anyPts; simp only [pts_whole]

/-- The kernel's own buffers, whole and slot by slot. -/
theorem scratch_split (c : Dev nD) : (Pipeline.scopedRest cfg0.spec c : sProp 𝕄) ⊢ slotsAny c := by
  refine (Entails.of_eq (scopedRest0_eq c)).trans (BIBase.Entails.trans ?_ (slots_split c))
  unfold buffers sndM rcvM wbufM
  simp only [any_whole]
  iintro ⟨H0, H1, H2, H3, H4, H5⟩
  isplitl [H0 H2]
  · isplitl [H0] <;> iassumption
  isplitl [H1 H3]
  · isplitl [H1] <;> iassumption
  isplitl [H4] <;> iassumption
theorem scratch_join (c : Dev nD) : slotsAny c ⊢ (Pipeline.scopedRest cfg0.spec c : sProp 𝕄) := by
  refine (slots_join c).trans (BIBase.Entails.trans ?_ (Entails.of_eq (scopedRest0_eq c).symm))
  unfold buffers sndM rcvM wbufM
  simp only [any_whole]
  iintro ⟨⟨H0, H2⟩, ⟨H1, H3⟩, H4, H5⟩
  isplitl [H0]; · iexact H0
  isplitl [H1]; · iexact H1
  isplitl [H2]; · iexact H2
  isplitl [H3]; · iexact H3
  isplitl [H4] <;> iassumption

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl]
  unfold Φ₀
  iintro ⟨Hs, -, Hr⟩
  isplitl [Hs]; · iexact Hs
  iapply (scratch_split c); iexact Hr

/-- What a device keeps beside its windows' arrays: the barrier's counter and the weights. -/
def kept (c : Dev nD) : sProp 𝕄 := iprop(unscopedSems0 c ∗ weights m c)

theorem phi1_exit (c : Dev nD) :
    (dats m ρ 0 c).Φ (Fin.last cfg0.N) ⊢ iprop(kept m c ∗ Pipeline.ownSems0 osem c ∗ Pipeline.scopedRest cfg0.spec c) := by
  rw [show (dats m ρ 0 c).Φ (Fin.last cfg0.N) = Φ₁ m c from rfl]
  unfold Φ₁ kept
  iintro ⟨Hz, Hw, Hs⟩
  ihave Hz' := (sems0_eq' (F := F) c) $$ Hz
  icases Hz' with ⟨Ho, Hu⟩
  isplitl [Hu Hw]
  · isplitl [Hu] <;> iassumption
  isplitl [Ho]; · iexact Ho
  iapply (scratch_join c); iexact Hs

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide +kernel) _ (by
      rcases t with ⟨_ | _, ht⟩
      · exact Or.inl rfl
      · exact Or.inr rfl)

/-- What the final memory says of what a device kept. -/
def KeptQ (c : Dev nD) (s : MemSt nD τ sig (Elt F)) : Prop :=
  (∀ w : Wt, s.mem ((whbm w).view.loc (c : Thread nD τ)) = m ((whbm w).view.loc (c : Thread nD τ)))
    ∧ ∀ sm : SemLoc sig, sm.isScoped .tc = false → s.sem ((c.tc : Thread nD τ), sm) = 0

theorem kept_read (c : Dev nD) (s' : Phys nD τ sig (Elt F)) :
    iprop(kept m c ∗ emp ∗ SI s') ⊢ |={Set.univ}=> iprop(⌜KeptQ m c s'.mem⌝ ∗ SI s') := by
  unfold kept
  rw [weights_eq]
  iintro ⟨⟨Hu, Hw⟩, -, HSI⟩
  ihave H := (pointsTo_read_all' Finset.univ (fun w : Wt => (whbm w).view.loc (c : Thread nD τ))
    (fun w => m ((whbm w).view.loc (c : Thread nD τ))) s' fun _ => fullShare) $$ [Hw HSI]
  · isplitl [Hw] <;> iassumption
  icases H with ⟨%hw, HSI⟩
  imod (Pipeline.unscopedSems0_read (X := unscopedSems0 c) (c := c) fupd_intro s') $$ [Hu HSI] with ⟨%hs, HSI⟩
  · isplitl [Hu] <;> iassumption
  imodintro
  isplitr
  · ipureintro; exact ⟨fun w => hw w (Finset.mem_univ _), hs⟩
  iexact HSI

/-! ### The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, (∀ w : Fin cfg0.W, r.2.mem ((cfg0.win w).arr.view.loc (c : Thread nD τ)) = finalA m ρ c w)
    ∧ ∀ w : Wt, r.2.mem ((whbm w).view.loc (c : Thread nD τ)) = m ((whbm w).view.loc (c : Thread nD τ))

set_option maxRecDepth 32000 in
/-- On the mesh of four devices, for any float values, from any memory with zero counters: every fair execution
    terminates with the windows' arrays at their final contents, the weights unchanged and every semaphore at zero. -/
theorem run_arrays : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund m) $$ HX with HG
      imodintro
      isplitl [HP] <;> iassumption)
    (hglob := glob m)
    (hA := fun _ _ => rfl) (hpf := fun _ k => k.elim0)
    (X := start m) (Y := kept m) (Z := fun _ => iprop(emp))
    (hX := start_intro m ρ) (hin := phi0_intro m ρ) (hout := phi1_exit m ρ)
    (QY := KeptQ m) (hY := kept_read m)
    (hQ := fun _ h hs => ⟨fun c => ⟨(h c).1, (h c).2.2.1⟩, sem_eq_zero hs fun c => (h c).2.2.2⟩)

/-- The input's array ends as it was, -/
theorem final_x (c : Dev nD) : finalA m ρ c (0 : Fin 2) = m ((c : Thread nD τ).loc main_arg0) :=
  (dats (F := F) m ρ 0 c).arrAt_in (0 : Fin 2) rfl _

theorem offs_zero : (fun a => (win0_1.index (0 : Fin 1)) a * main_v1.ty.shape.size a) = fun _ => 0 :=
  funext fun a => by fin_cases a <;> decide

/-- and the result's array at the device's result. -/
theorem final_out (c : Dev nD) : finalA m ρ c (1 : Fin 2) = outV (xstg m) (wval m) c := by
  have hr := fun f => Memref.read_access_unit_zero (Elt F) main_v1 offs_zero (fun a => by fin_cases a <;> decide) f
  have h : (win0_1.blk (0 : Fin 1)).view.read (Elt F) (finalA m ρ c (1 : Fin 2)) = outV (xstg m) (wval m) c := by
    unfold finalA
    rw [show cfg0.N = ((0 : Fin 1) : Fin cfg0.N).val + 1 from rfl, (dats m ρ 0 c).arrAt_succ (1 : Fin 2) (0 : Fin 1)]
    rw [show (cfg0.win (1 : Fin 2)).flush (0 : Fin 1) = true from flush0_1 _, if_pos rfl]
    exact View.read_write_univ _ _
  exact (hr _).symm.trans h

/-- The run: each device's result is its value, its arguments are unchanged, and every semaphore is at zero. -/
theorem run_main : θ_run defs (onTc (τ := τ) (main (F := F))) (s₀ m ρ) (fun r =>
    (∀ c : Dev nD, r.2.mem ((c : Thread nD τ).loc main_v1) = outV (xstg m) (wval m) c
      ∧ r.2.mem ((c : Thread nD τ).loc main_arg0) = m ((c : Thread nD τ).loc main_arg0)
      ∧ ∀ w : Wt, r.2.mem ((whbm w).view.loc (c : Thread nD τ)) = m ((whbm w).view.loc (c : Thread nD τ)))
    ∧ r.2.sem = fun _ => 0) :=
  (θ_run defs _ _).mono (fun r h => ⟨fun c => ⟨((h.1 c).1 1).trans (final_out m ρ c), ((h.1 c).1 0).trans (final_x m ρ c), (h.1 c).2⟩, h.2⟩)
    (run_arrays m ρ)

end Cert.Mlp

end
-- ==== Proof.Math.lean ====
/-
  The values over the ideal numbers: each device's chunks are blocks of the plain layers
  `max (X Win, 0) Wout` of the whole arrays.
-/
module

public import proofs.«01_k».proof.Proof.Values
public import Idealize.ShloMosaic.Lib.MatmulPlain
public import Idealize.ShloMosaic.Lib.StackMember
public import Idealize.ShloMosaic.Lib.Pipeline.Value

@[expose] public section

noncomputable section

namespace Cert.Mlp

open Idealize.ShloMosaic Idealize.ShloMosaic.TcCoe Idealize.ShloMosaic.ValueIdx
open Idealize.SL Idealize.SL.Sem
open Cert.KernelIdeal Cert.KernelIdeal.Gen
open scoped BigOperators

/-! ### The whole arrays' layers -/

abbrev WholeX := FVec Ideal ⟨2, ![256, 512]⟩ .f32
abbrev WholeH := FVec Ideal ⟨2, ![256, 1024]⟩ .f32
abbrev WholeIn := FVec Ideal ⟨2, ![512, 1024]⟩ .f32
abbrev WholeOut := FVec Ideal ⟨2, ![1024, 512]⟩ .f32

theorem splat_fits : (⟨0, ![]⟩ : Shape).BroadcastsInDim ⟨2, ![256, 1024]⟩ (![] : Fin 0 → Fin 2) := by decide

/-- A layer's hidden activations, the product with the first weights and the maximum with zero, -/
def fullH (X : WholeX) (W : WholeIn) : WholeH :=
  maximumf (Host.dotGeneral (DotDims.plain 256 512 1024) none X W)
    (broadcastInDim ⟨2, ![256, 1024]⟩ ![] splat_fits (constant ⟨0, ![]⟩ .f32 0x00000000#32))
/-- and its output, the product with the second. -/
def fullX (X : WholeX) (W : WholeIn) (V : WholeOut) : WholeX := Host.dotGeneral (DotDims.plain 256 1024 512) none (fullH X W) V

theorem fullH_at (X : WholeX) (W : WholeIn) (r : Fin 256) (j : Fin 1024) :
    fullH X W (ix2 r j) = max (∑ t : Fin 512, X (ix2 r t) * W (ix2 t j)) 0 := by
  have h0 : (broadcastInDim ⟨2, ![256, 1024]⟩ ![] splat_fits (constant ⟨0, ![]⟩ .f32 0x00000000#32) : WholeH) (ix2 r j) = 0 := Ideal.ofBits_zero_f32
  show max (Host.dotGeneral (DotDims.plain 256 512 1024) none X W (ix2 r j)) _ = _
  rw [StackMember.dotGeneral_plain_apply, h0]

theorem fullX_at (X : WholeX) (W : WholeIn) (V : WholeOut) (r : Fin 256) (j : Fin 512) :
    fullX X W V (ix2 r j) = ∑ t : Fin 1024, fullH X W (ix2 r t) * V (ix2 t j) := by
  unfold fullX
  rw [StackMember.dotGeneral_plain_apply]

/-! ### Where a device's blocks lie -/

/-- A device's coordinates on the mesh. -/
def cx (d : Dev nD) : Fin 2 := ⟨d.val / 2, by have : d.val < 4 := d.isLt; omega⟩
def cy (d : Dev nD) : Fin 2 := ⟨d.val % 2, Nat.mod_lt _ (by decide)⟩
/-- The other coordinate. -/
def other (b : Fin 2) : Fin 2 := 1 - b

theorem cx_row : ∀ d : Dev nD, cx (peer true d) = cx d := by decide +kernel
theorem cy_row : ∀ d : Dev nD, cy (peer true d) = other (cy d) := by decide +kernel
theorem cx_col : ∀ d : Dev nD, cx (peer false d) = other (cx d) := by decide +kernel
theorem cy_col : ∀ d : Dev nD, cy (peer false d) = cy d := by decide +kernel

/-- A chunk's row, and a column of a block of the activations and of the hidden activations. -/
def rowAt (c : Fin 4) (r : Fin 64) : Fin 256 := ⟨64 * c.val + r.val, by omega⟩
def colAt (b : Fin 2) (j : Fin 256) : Fin 512 := ⟨256 * b.val + j.val, by omega⟩
def hidAt (b : Fin 2) (j : Fin 512) : Fin 1024 := ⟨512 * b.val + j.val, by omega⟩

/-- A sum over the columns of both blocks, in either order, is the sum over all. -/
theorem sum_blocks {n N : ℕ} (at' : Fin 2 → Fin n → Fin N) (hN : n + n = N) (hat : ∀ b j, (at' b j).val = n * b.val + j.val)
    (f : Fin N → EReal) (b : Fin 2) : (∑ t, f (at' b t)) + ∑ t, f (at' (other b) t) = ∑ t, f t := by
  subst hN
  have e0 (t : Fin n) : at' 0 t = Fin.castAdd n t := Fin.ext (by rw [hat]; simp)
  have e1 (t : Fin n) : at' 1 t = Fin.natAdd n t := Fin.ext (by rw [hat]; simp [Nat.add_comm])
  have h : (∑ t, f (at' 0 t)) + ∑ t, f (at' 1 t) = ∑ t, f t := by
    rw [Fin.sum_univ_add]; simp only [e0, e1]
  match b with
  | 0 => exact h
  | 1 => rw [add_comm]; exact h

theorem sum_cols (f : Fin 512 → EReal) (b : Fin 2) : (∑ t, f (colAt b t)) + ∑ t, f (colAt (other b) t) = ∑ t, f t :=
  sum_blocks colAt rfl (fun _ _ => rfl) f b
theorem sum_hids (f : Fin 1024 → EReal) (b : Fin 2) : (∑ t, f (hidAt b t)) + ∑ t, f (hidAt (other b) t) = ∑ t, f t :=
  sum_blocks hidAt rfl (fun _ _ => rfl) f b

/-! ### The kernel's blocks at an index -/

theorem partH_at (x : Act Ideal) (w : Vec Ideal S256x512 .f32) (r : Fin 64) (j : Fin 512) :
    partH x w (ix2 r j) = ∑ t : Fin 256, x (ix2 r t) * w (ix2 t j) := by
  show FloatOps.matmul (φ₁ := .bf16) (φ₂ := .bf16) (DotDims.plain 64 256 512) none x w (constant (F := Ideal) ⟨2, ![64, 512]⟩ .f32 0x00000000#32) (ix2 r j) = _
  rw [Ideal.matmul_plain_apply]
  show Ideal.ofBits .f32 0x00000000#32 + _ = _
  rw [Ideal.ofBits_zero_f32, zero_add]

theorem partO_at (h : Hid Ideal) (w : Vec Ideal S512x256 .f32) (r : Fin 64) (j : Fin 256) :
    partO h w (ix2 r j) = ∑ t : Fin 512, h (ix2 r t) * w (ix2 t j) := by
  show FloatOps.matmul (φ₁ := .bf16) (φ₂ := .bf16) (DotDims.plain 64 512 256) none h w (constant (F := Ideal) ⟨2, ![64, 256]⟩ .f32 0x00000000#32) (ix2 r j) = _
  rw [Ideal.matmul_plain_apply]
  show Ideal.ofBits .f32 0x00000000#32 + _ = _
  rw [Ideal.ofBits_zero_f32, zero_add]

theorem zero_bf16 : Ideal.ofBits .bf16 0x0000#16 = 0 := by simp [Ideal.ofBits, Ideal.ieee]

theorem actH_at (p q : Hid Ideal) (i : S64x512.Idx) : actH p (slotH q) i = max (p i + q i) 0 := by
  unfold actH slotH
  rw [shapeCast_shapeCast]
  show max (p i + q i) (Ideal.ofBits .bf16 0x0000#16) = _
  rw [zero_bf16]

theorem sumO_at (p q : Act Ideal) (i : S64x256.Idx) : sumO p (slotO q) i = p i + q i := by
  unfold sumO slotO
  rw [shapeCast_shapeCast]
  rfl

theorem xChunk_at (v : Vec Ideal S64x256 .f32) (i : S64x256.Idx) : xChunk v i = v i := by
  unfold xChunk
  rw [shapeCast_self]
  rfl

/-! ### A layer -/

section Layer

variable (wa : (w : Wt) → Dev nD → (wtS w.1).Idx → Elt Ideal .f32) (X : Dev nD → Fin 4 → Act Ideal) (k : Fin 3)
variable (XX : WholeX) (W : WholeIn) (V : WholeOut)

/-- The devices' chunks are the blocks of the whole activations. -/
def IsX : Prop := ∀ d c r j, X d c (ix2 r j) = XX (ix2 (rowAt c r) (colAt (cy d) j))
/-- The devices' first weights of the layer are the blocks of the whole one, -/
def IsIn : Prop := ∀ (d : Dev nD) (r : Fin 256) (j : Fin 512), wa (true, k) d (ix2 r j) = W (ix2 (colAt (cy d) r) (hidAt (cx d) j))
/-- and their second ones of the whole second. -/
def IsOut : Prop := ∀ (d : Dev nD) (r : Fin 512) (j : Fin 256), wa (false, k) d (ix2 r j) = V (ix2 (hidAt (cx d) r) (colAt (cy d) j))

variable {wa X k XX W V}

theorem hidP_at (hX : IsX X XX) (hW : IsIn wa k W) (d : Dev nD) (c : Fin 4) (r : Fin 64) (j : Fin 512) :
    hidP wa X k d c (ix2 r j) = ∑ t : Fin 256, XX (ix2 (rowAt c r) (colAt (cy d) t)) * W (ix2 (colAt (cy d) t) (hidAt (cx d) j)) := by
  unfold hidP
  refine (partH_at (X d c) (wa (true, k) d) r j).trans (Finset.sum_congr rfl fun t _ => ?_)
  rw [hX, hW]

/-- A device's hidden block is a block of the whole hidden activations. -/
theorem hid_at (hX : IsX X XX) (hW : IsIn wa k W) (d : Dev nD) (c : Fin 4) (r : Fin 64) (j : Fin 512) :
    hid wa X k d c (ix2 r j) = fullH XX W (ix2 (rowAt c r) (hidAt (cx d) j)) := by
  unfold hid
  rw [actH_at, hidP_at hX hW, hidP_at hX hW, cx_row, cy_row, fullH_at,
    sum_cols (fun t => XX (ix2 (rowAt c r) t) * W (ix2 t (hidAt (cx d) j)))]

theorem outP_at (hX : IsX X XX) (hW : IsIn wa k W) (hV : IsOut wa k V) (d : Dev nD) (c : Fin 4) (r : Fin 64) (j : Fin 256) :
    outP wa X k d c (ix2 r j)
      = ∑ t : Fin 512, fullH XX W (ix2 (rowAt c r) (hidAt (cx d) t)) * V (ix2 (hidAt (cx d) t) (colAt (cy d) j)) := by
  unfold outP
  refine (partO_at (hid wa X k d c) (wa (false, k) d) r j).trans (Finset.sum_congr rfl fun t _ => ?_)
  rw [hid_at hX hW, hV]

/-- The devices' output chunks are the blocks of the whole layer's output. -/
theorem isX_layer (hX : IsX X XX) (hW : IsIn wa k W) (hV : IsOut wa k V) : IsX (outB wa X k) (fullX XX W V) := by
  intro d c r j
  unfold outB
  rw [sumO_at, outP_at hX hW hV, outP_at hX hW hV, cx_col, cy_col, fullX_at,
    sum_hids (fun t => fullH XX W (ix2 (rowAt c r) t) * V (ix2 t (colAt (cy d) j)))]

end Layer

/-! ### The network -/

/-- The whole activations before layer `k`. -/
def fullAct (x : WholeX) (W : Fin 3 → WholeIn) (V : Fin 3 → WholeOut) : ℕ → WholeX
  | 0 => x
  | k + 1 => fullX (fullAct x W V k) (W (Fin.ofNat 3 k)) (V (Fin.ofNat 3 k))

section Net

variable {xa : Dev nD → Vec Ideal S256x256 .f32} {wa : (w : Wt) → Dev nD → (wtS w.1).Idx → Elt Ideal .f32}
variable {x : WholeX} {W : Fin 3 → WholeIn} {V : Fin 3 → WholeOut}

theorem isX_act (hx : ∀ (d : Dev nD) (r j : Fin 256), xa d (ix2 r j) = x (ix2 r (colAt (cy d) j)))
    (hW : ∀ k, IsIn wa k (W k)) (hV : ∀ k, IsOut wa k (V k)) : ∀ n, IsX (act xa wa n) (fullAct x W V n)
  | 0 => by
    intro d c r j
    show xChunk (rowsOf (xa d) c) (ix2 r j) = x _
    rw [xChunk_at]
    unfold rowsOf
    have e : (chunkR c).emb (ix2 r j) = (ix2 (rowAt c r) j : S256x256.Idx) := by
      funext a
      refine Fin.ext ?_
      fin_cases a
      · show 64 * c.val + 1 * r.val = 64 * c.val + r.val
        omega
      · show 0 + 1 * j.val = j.val
        omega
    rw [e]
    exact hx d (rowAt c r) j
  | n + 1 => isX_layer (isX_act hx hW hV n) (hW _) (hV _)

/-- A device's result is its block of columns of the whole network's output. -/
theorem outV_at (hx : ∀ (d : Dev nD) (r j : Fin 256), xa d (ix2 r j) = x (ix2 r (colAt (cy d) j)))
    (hW : ∀ k, IsIn wa k (W k)) (hV : ∀ k, IsOut wa k (V k)) (d : Dev nD) (r j : Fin 256) :
    outV xa wa d (ix2 r j) = fullAct x W V 3 (ix2 r (colAt (cy d) j)) := by
  have hc : r.val / 64 < 4 := by omega
  have h := isX_act hx hW hV 3 d ⟨r.val / 64, hc⟩ ⟨r.val % 64, Nat.mod_lt _ (by decide)⟩ j
  have e : rowAt ⟨r.val / 64, hc⟩ ⟨r.val % 64, Nat.mod_lt _ (by decide)⟩ = r := Fin.ext (by
    show 64 * (r.val / 64) + r.val % 64 = r.val
    omega)
  rw [e] at h
  refine Eq.trans ?_ h
  show act xa wa 3 d ⟨r.val / 64, _⟩ _ = _
  refine congrArg _ ?_
  funext a
  fin_cases a <;> rfl

end Net

end Cert.Mlp

end
-- ==== Proof.Claims.lean ====
/-
  The claims: the frames of the program, of its ideal reading and of the reference, and the
  equality of the kernel's result with the reference's.
-/
module

public import proofs.«01_k».proof.Defs
public import proofs.«01_k».proof.Proof.Run
public import proofs.«01_k».proof.Proof.Math
public import proofs.«01_k».proof.Proof.Gen.Kernel
public import proofs.«01_k».proof.Proof.Gen.ReferenceIdeal
public import proofs.«01_k».proof.Proof.Gen.ReferenceIdeal.Run

@[expose] public section

noncomputable section

namespace Cert.Mlp

open Cert.KernelIdeal Cert.KernelIdeal.Gen
open Idealize.ShloMosaic Idealize.ShloMosaic.TcCoe Idealize.ShloMosaic.ValueIdx
open Idealize.SL Idealize.SL.Sem

/-! ### The frames -/

/-- The arguments of the run on a device, one by one. -/
theorem args_kept {F : FTy → Type} {d : Dev nD} {s m : (ℓ : Loc nD τ sig) → Buf (Elt F) ℓ}
    (hx : s ((d : Thread nD τ).loc main_arg0) = m ((d : Thread nD τ).loc main_arg0))
    (hw : ∀ w : Wt, s ((whbm w).view.loc (d : Thread nD τ)) = m ((whbm w).view.loc (d : Thread nD τ))) :
    s ((d : Thread nD τ).loc main_arg0) = m ((d : Thread nD τ).loc main_arg0)
      ∧ s ((d : Thread nD τ).loc main_arg1) = m ((d : Thread nD τ).loc main_arg1)
      ∧ s ((d : Thread nD τ).loc main_arg2) = m ((d : Thread nD τ).loc main_arg2)
      ∧ s ((d : Thread nD τ).loc main_arg3) = m ((d : Thread nD τ).loc main_arg3)
      ∧ s ((d : Thread nD τ).loc main_arg4) = m ((d : Thread nD τ).loc main_arg4)
      ∧ s ((d : Thread nD τ).loc main_arg5) = m ((d : Thread nD τ).loc main_arg5)
      ∧ s ((d : Thread nD τ).loc main_arg6) = m ((d : Thread nD τ).loc main_arg6) :=
  ⟨hx, hw (true, 0), hw (true, 1), hw (true, 2), hw (false, 0), hw (false, 1), hw (false, 2)⟩

/-- At any float values the program terminates, keeps its arguments and ends with every semaphore at zero. -/
theorem run_kept {F : FTy → Type} [FloatOps F] (m : (ℓ : Loc nD τ sig) → Buf (Elt F) ℓ) (ρ : Dev nD → PrngReg) :
    θ_run (defs (F := F)) (onTc (τ := τ) (main (F := F))) ⟨m, fun _ => 0, ρ⟩ (fun r => (∀ d : Dev nD,
      r.2.mem ((d.tc : Thread nD τ).loc main_arg0) = m ((d.tc : Thread nD τ).loc main_arg0)
      ∧ r.2.mem ((d.tc : Thread nD τ).loc main_arg1) = m ((d.tc : Thread nD τ).loc main_arg1)
      ∧ r.2.mem ((d.tc : Thread nD τ).loc main_arg2) = m ((d.tc : Thread nD τ).loc main_arg2)
      ∧ r.2.mem ((d.tc : Thread nD τ).loc main_arg3) = m ((d.tc : Thread nD τ).loc main_arg3)
      ∧ r.2.mem ((d.tc : Thread nD τ).loc main_arg4) = m ((d.tc : Thread nD τ).loc main_arg4)
      ∧ r.2.mem ((d.tc : Thread nD τ).loc main_arg5) = m ((d.tc : Thread nD τ).loc main_arg5)
      ∧ r.2.mem ((d.tc : Thread nD τ).loc main_arg6) = m ((d.tc : Thread nD τ).loc main_arg6))
      ∧ r.2.sem = fun _ => 0) :=
  (θ_run Cert.KernelIdeal.defs _ _).mono (fun _ h => ⟨fun d => args_kept (h.1 d).2.1 (h.1 d).2.2, h.2⟩) (run_main (F := F) m ρ)

/-- So does its ideal reading, -/
theorem frame_ideal : Cert.quiescent_KernelIdeal := fun m ρ _ => run_kept (F := Ideal) m ρ

set_option maxRecDepth 100000 in
/-- and the program itself, which has the same text: the bodies agree, -/
theorem bodies_eq {F : FTy → Type} [FloatOps F] :
    @Cert.Kernel.cc0_body F _ Cert.Kernel.Gen.facts = @Cert.KernelIdeal.cc0_body F _ Cert.KernelIdeal.Gen.facts := by
  unfold Cert.Kernel.cc0_body Cert.KernelIdeal.cc0_body
  rfl

/-- so the tables of bodies agree, -/
theorem tables_eq {F : FTy → Type} [FloatOps F] : Cert.Kernel.defs₀ (F := F) = Cert.KernelIdeal.defs₀ (F := F) := by
  unfold Cert.Kernel.defs₀ Cert.KernelIdeal.defs₀
  refine congrArg Defs.onTc (funext fun l => funext fun a => ?_)
  match l, a with
  | 0, (t, s) =>
    dsimp only
    rw [bodies_eq]
  | ⟨_ + 1, h⟩, _ => exact absurd h (Nat.not_lt.2 (Nat.le_add_left _ _))

/-- so the definitions agree, -/
theorem defs_agree {F : FTy → Type} [FloatOps F] : Cert.Kernel.defs (F := F) = Cert.KernelIdeal.defs (F := F) := by
  unfold Cert.Kernel.defs Cert.KernelIdeal.defs
  rw [tables_eq]; rfl

/-- and the run is the same run. -/
theorem frame_kernel : Cert.quiescent_Kernel := fun m ρ _ => by
  rw [defs_agree]
  exact run_kept (F := Bits) m ρ

/-- And the reference, which has no semaphore. -/
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-! ### The values -/

/-- A device's block of the activations, -/
theorem block_x (d : Dev nD) (v : WholeX) (r j : Fin 256) :
    Layout.blockN ⟨2, ![256, 256]⟩ ⟨2, ![256, 512]⟩ (Layout.meshBlock [2, 2] ![[], [1]] d) v (by decide) (ix2 r j) = v (ix2 r (colAt (cy d) j)) := by
  refine congrArg v (funext fun a => Fin.ext ?_)
  fin_cases a
  · show 0 * 256 + r.val = r.val
    omega
  · show ((d.val / 1) % 2 * 1 + 0) * 256 + j.val = 256 * (d.val % 2) + j.val
    omega
/-- of a layer's first weights -/
theorem block_in (d : Dev nD) (v : WholeIn) (r : Fin 256) (j : Fin 512) :
    Layout.blockN ⟨2, ![256, 512]⟩ ⟨2, ![512, 1024]⟩ (Layout.meshBlock [2, 2] ![[1], [0]] d) v (by decide) (ix2 r j)
      = v (ix2 (colAt (cy d) r) (hidAt (cx d) j)) := by
  have hd : d.val < 4 := d.isLt
  refine congrArg v (funext fun a => Fin.ext ?_)
  fin_cases a
  · show ((d.val / 1) % 2 * 1 + 0) * 256 + r.val = 256 * (d.val % 2) + r.val
    omega
  · show ((d.val / 2) % 2 * 1 + 0) * 512 + j.val = 512 * (d.val / 2) + j.val
    omega
/-- and of its second. -/
theorem block_out (d : Dev nD) (v : WholeOut) (r : Fin 512) (j : Fin 256) :
    Layout.blockN ⟨2, ![512, 256]⟩ ⟨2, ![1024, 512]⟩ (Layout.meshBlock [2, 2] ![[0], [1]] d) v (by decide) (ix2 r j)
      = v (ix2 (hidAt (cx d) r) (colAt (cy d) j)) := by
  have hd : d.val < 4 := d.isLt
  refine congrArg v (funext fun a => Fin.ext ?_)
  fin_cases a
  · show ((d.val / 2) % 2 * 1 + 0) * 512 + r.val = 512 * (d.val / 2) + r.val
    omega
  · show ((d.val / 1) % 2 * 1 + 0) * 256 + j.val = 256 * (d.val % 2) + j.val
    omega

section Blocks

variable {F : FTy → Type} [FloatOps F] (m : (ℓ : Loc nD τ sig) → Buf (Elt F) ℓ) (d : Dev nD)

theorem offs_zero_x : (fun a => (win0_0.index (0 : Fin 1)) a * main_arg0.ty.shape.size a) = fun _ => 0 :=
  funext fun a => by fin_cases a <;> decide

/-- The kernel's input buffer holds the whole of a device's block. -/
theorem xstg_eq : xstg m d = m ((d : Thread nD τ).loc main_arg0) :=
  Memref.read_access_unit_zero (Elt F) main_arg0 offs_zero_x (fun a => by fin_cases a <;> decide) _

end Blocks

/-- The kernel's result is its block of the reference's: both run, and every argument ends as it was. -/
theorem value : Cert.algebraic_KernelIdeal_ReferenceIdeal := by
  intro m ρ m' ρ' _ hargs
  let W : Fin 3 → WholeIn := ![m' (((0 : Dev Cert.ReferenceIdeal.nD).tc : Thread Cert.ReferenceIdeal.nD Cert.ReferenceIdeal.τ).loc Cert.ReferenceIdeal.main_arg1),
    m' (((0 : Dev Cert.ReferenceIdeal.nD).tc : Thread Cert.ReferenceIdeal.nD Cert.ReferenceIdeal.τ).loc Cert.ReferenceIdeal.main_arg2),
    m' (((0 : Dev Cert.ReferenceIdeal.nD).tc : Thread Cert.ReferenceIdeal.nD Cert.ReferenceIdeal.τ).loc Cert.ReferenceIdeal.main_arg3)]
  let V : Fin 3 → WholeOut := ![m' (((0 : Dev Cert.ReferenceIdeal.nD).tc : Thread Cert.ReferenceIdeal.nD Cert.ReferenceIdeal.τ).loc Cert.ReferenceIdeal.main_arg4),
    m' (((0 : Dev Cert.ReferenceIdeal.nD).tc : Thread Cert.ReferenceIdeal.nD Cert.ReferenceIdeal.τ).loc Cert.ReferenceIdeal.main_arg5),
    m' (((0 : Dev Cert.ReferenceIdeal.nD).tc : Thread Cert.ReferenceIdeal.nD Cert.ReferenceIdeal.τ).loc Cert.ReferenceIdeal.main_arg6)]
  let x : WholeX := m' (((0 : Dev Cert.ReferenceIdeal.nD).tc : Thread Cert.ReferenceIdeal.nD Cert.ReferenceIdeal.τ).loc Cert.ReferenceIdeal.main_arg0)
  have hx (d : Dev nD) (r j : Fin 256) : xstg m d (ix2 r j) = x (ix2 r (colAt (cy d) j)) := by
    rw [xstg_eq, (hargs d).1]
    exact block_x d x r j
  have hW (k : Fin 3) : IsIn (wval m) k (W k) := fun d r j => by
    obtain ⟨-, h1, h2, h3, -⟩ := hargs d
    match k with
    | 0 => exact (congrFun h1 (ix2 r j)).trans (block_in d (W 0) r j)
    | 1 => exact (congrFun h2 (ix2 r j)).trans (block_in d (W 1) r j)
    | 2 => exact (congrFun h3 (ix2 r j)).trans (block_in d (W 2) r j)
  have hV (k : Fin 3) : IsOut (wval m) k (V k) := fun d r j => by
    obtain ⟨-, -, -, -, h1, h2, h3⟩ := hargs d
    match k with
    | 0 => exact (congrFun h1 (ix2 r j)).trans (block_out d (V 0) r j)
    | 1 => exact (congrFun h2 (ix2 r j)).trans (block_out d (V 1) r j)
    | 2 => exact (congrFun h3 (ix2 r j)).trans (block_out d (V 2) r j)
  refine ⟨fullAct x W V 3, ?_, ?_⟩
  · refine (θ_run Cert.KernelIdeal.defs _ _).mono (fun _ h c => ⟨(h.1 c).1.trans ?_, args_kept (h.1 c).2.1 (h.1 c).2.2⟩) (run_main (F := Ideal) m ρ)
    funext i
    rw [eq_ix2 i]
    exact (outV_at hx hW hV c (i 0) (i 1)).trans (block_x c (fullAct x W V 3) (i 0) (i 1)).symm
  · exact (θ_run Cert.ReferenceIdeal.defs _ _).mono (fun _ h => ⟨(h 0).1.trans rfl, (h 0).2⟩) (Cert.ReferenceIdeal.Value.run (F := Ideal) m' ρ')

end Cert.Mlp

end
-- ==== Proof.lean ====
/-
  The proof of the claims that the statement states: the frames of the kernel, of its ideal reading and
  of the reference, that the ideal reading keeps the program, and that its result is the
  reference's. `Proof/Claims.lean` says where each comes from.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Claims
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Mlp.frame_kernel, Cert.Mlp.frame_ideal, Cert.Mlp.frame_reference, trivial, Cert.Mlp.value⟩

end Cert.Proof

end
